-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S8194x1024 : Shape := ⟨2, ![8194, 1024]⟩
abbrev S65552x128 : Shape := ⟨2, ![65552, 128]⟩
abbrev S4x65536x128 : Shape := ⟨3, ![4, 65536, 128]⟩
abbrev S4x256 : Shape := ⟨2, ![4, 256]⟩
abbrev S128 : Shape := ⟨1, ![128]⟩
abbrev S2x256x128 : Shape := ⟨3, ![2, 256, 128]⟩
abbrev S128x128 : Shape := ⟨2, ![128, 128]⟩
abbrev S_ : Shape := ⟨0, ![]⟩
abbrev S16 : Shape := ⟨1, ![16]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x16 : Shape := ⟨2, ![1, 16]⟩
abbrev S1x128x128 : Shape := ⟨3, ![1, 128, 128]⟩
abbrev S4x8192x1024 : Shape := ⟨3, ![4, 8192, 1024]⟩

abbrev nBuf : Table → Nat
  | .hbm => 5
  | .local .scVector .vmem => 4
  | _ => 0

abbrev bufTy : (tb : Table) → Fin (nBuf tb) → BufTy
  | .hbm, ⟨0, _⟩ => ⟨S4x8192, .i32⟩
  | .hbm, ⟨1, _⟩ => ⟨S8194x1024, .f32⟩
  | .hbm, ⟨2, _⟩ => ⟨S65552x128, .f32⟩
  | .hbm, ⟨3, _⟩ => ⟨S4x65536x128, .f32⟩
  | .hbm, ⟨4, _⟩ => ⟨S4x8192x1024, .f32⟩
  | .local .scVector .vmem, ⟨0, _⟩ => ⟨S4x256, .i32⟩
  | .local .scVector .vmem, ⟨1, _⟩ => ⟨S128, .i32⟩
  | .local .scVector .vmem, ⟨2, _⟩ => ⟨S2x256x128, .f32⟩
  | .local .scVector .vmem, ⟨3, _⟩ => ⟨S128x128, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 70 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | _ => false

abbrev sig : RefSig :=
  ofTables nBuf rfl bufTy 4 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
def k0_off2 (i : grid0.Coords) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![1, v2.toNat]
def k0_off3 (i : grid0.Coords) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![2, v2.toNat]
def k0_off4 (i : grid0.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![3, v2.toNat]
def k0_off5 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_13 : BitVec 32 := 2#32
  let v36 : BitVec 32 := Scalar.addi v2 c2_i32_13
  let v37 : BitVec 32 := Scalar.addi v36 c0_i32_14
  let c8_i32 : BitVec 32 := 8#32
  let v38 : BitVec 32 := Scalar.muli v37 c8_i32
  let c0_i32_18 : BitVec 32 := 0#32
  ![v38.toNat, 0]
def k0_off6 (i : grid0.Coords) (c0_i32_38 : BitVec 32) : Fin 3 → Nat :=
  let c0_i32_41 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v60 : BitVec 32 := Scalar.addi v2 c0_i32_38
  let c8_i32_39 : BitVec 32 := 8#32
  let v61 : BitVec 32 := Scalar.muli v60 c8_i32_39
  let c0_i32_44 : BitVec 32 := 0#32
  ![0, v61.toNat, 0]
def k0_off7 (i : grid0.Coords) (c0_i32_48 : BitVec 32) : Fin 3 → Nat :=
  let c1_i32_51 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v70 : BitVec 32 := Scalar.addi v2 c0_i32_48
  let c8_i32_49 : BitVec 32 := 8#32
  let v71 : BitVec 32 := Scalar.muli v70 c8_i32_49
  let c0_i32_54 : BitVec 32 := 0#32
  ![1, v71.toNat, 0]
def k0_off8 (i : grid0.Coords) (c0_i32_58 : BitVec 32) : Fin 3 → Nat :=
  let c2_i32_61 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v80 : BitVec 32 := Scalar.addi v2 c0_i32_58
  let c8_i32_59 : BitVec 32 := 8#32
  let v81 : BitVec 32 := Scalar.muli v80 c8_i32_59
  let c0_i32_64 : BitVec 32 := 0#32
  ![2, v81.toNat, 0]
def k0_off9 (i : grid0.Coords) (c0_i32_68 : BitVec 32) : Fin 3 → Nat :=
  let c3_i32_71 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v90 : BitVec 32 := Scalar.addi v2 c0_i32_68
  let c8_i32_69 : BitVec 32 := 8#32
  let v91 : BitVec 32 := Scalar.muli v90 c8_i32_69
  let c0_i32_74 : BitVec 32 := 0#32
  ![3, v91.toNat, 0]
@[reducible] def k0_t1_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond1 (v773 : BitVec 32) : BitVec 1 :=
  let c0_i32_737 : BitVec 32 := 0#32
  let v774 : BitVec 1 := Scalar.cmpi .sgt v773 c0_i32_737
  let v775 : BitVec 32 := Scalar.extui v774
  let c0_i32_738 : BitVec 32 := 0#32
  let v776 : BitVec 1 := Scalar.cmpi .ne v775 c0_i32_738
  v776

def k0_chk1 (v773 : BitVec 32) (v1614 : IVec S16 32) : Prop :=
  (∀ (k0_h1 : k0_cond1 v773 = 1#1), ∀ a x, ((![v1614] : Fin 1 → IVec S16 32) a x).toNat < S128.size a)
theorem k0_idx1_inb : ∀ (v773 : BitVec 32) (v1614 : IVec S16 32) (k0_hw1 : k0_chk1 v773 v1614), ∀ (k0_h1 : k0_cond1 v773 = 1#1), ∀ a x, ((![v1614] : Fin 1 → IVec S16 32) a x).toNat < S128.size a := fun v773 v1614 k0_hw1 k0_h1 => k0_hw1 k0_h1
def k0_off10 (i : grid0.Coords) : Fin 3 → Nat :=
  let c0_i32_1242 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_1240 : BitVec 32 := 0#32
  let v1607 : BitVec 32 := Scalar.addi v2 c0_i32_1240
  let c8_i32_1241 : BitVec 32 := 8#32
  let v1608 : BitVec 32 := Scalar.muli v1607 c8_i32_1241
  let c0_i32_1243_r0 : BitVec 32 := 0#32
  ![0, v1608.toNat, 0]
@[reducible] def k0_t2_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond2 (v786 : BitVec 32) : BitVec 1 :=
  let c0_i32_744 : BitVec 32 := 0#32
  let v787 : BitVec 1 := Scalar.cmpi .sgt v786 c0_i32_744
  let v788 : BitVec 32 := Scalar.extui v787
  let c0_i32_745 : BitVec 32 := 0#32
  let v789 : BitVec 1 := Scalar.cmpi .ne v788 c0_i32_745
  v789

def k0_chk2 (v786 : BitVec 32) (v1614 : IVec S16 32) : Prop :=
  (∀ (k0_h2 : k0_cond2 v786 = 1#1), ∀ a x, ((![v1614] : Fin 1 → IVec S16 32) a x).toNat < S128.size a)
theorem k0_idx2_inb : ∀ (v786 : BitVec 32) (v1614 : IVec S16 32) (k0_hw2 : k0_chk2 v786 v1614), ∀ (k0_h2 : k0_cond2 v786 = 1#1), ∀ a x, ((![v1614] : Fin 1 → IVec S16 32) a x).toNat < S128.size a := fun v786 v1614 k0_hw2 k0_h2 => k0_hw2 k0_h2
def k0_off11 (i : grid0.Coords) : Fin 3 → Nat :=
  let c0_i32_1241 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c16_i32_1239 : BitVec 32 := 16#32
  let v1607 : BitVec 32 := Scalar.addi v2 c16_i32_1239
  let c8_i32_1240 : BitVec 32 := 8#32
  let v1608 : BitVec 32 := Scalar.muli v1607 c8_i32_1240
  let c0_i32_1242_r1 : BitVec 32 := 0#32
  ![0, v1608.toNat, 0]
@[reducible] def k0_t3_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond3 (v799 : BitVec 32) : BitVec 1 :=
  let c0_i32_751 : BitVec 32 := 0#32
  let v800 : BitVec 1 := Scalar.cmpi .sgt v799 c0_i32_751
  let v801 : BitVec 32 := Scalar.extui v800
  let c0_i32_752 : BitVec 32 := 0#32
  let v802 : BitVec 1 := Scalar.cmpi .ne v801 c0_i32_752
  v802

def k0_chk3 (v799 : BitVec 32) (v1614 : IVec S16 32) : Prop :=
  (∀ (k0_h3 : k0_cond3 v799 = 1#1), ∀ a x, ((![v1614] : Fin 1 → IVec S16 32) a x).toNat < S128.size a)
theorem k0_idx3_inb : ∀ (v799 : BitVec 32) (v1614 : IVec S16 32) (k0_hw3 : k0_chk3 v799 v1614), ∀ (k0_h3 : k0_cond3 v799 = 1#1), ∀ a x, ((![v1614] : Fin 1 → IVec S16 32) a x).toNat < S128.size a := fun v799 v1614 k0_hw3 k0_h3 => k0_hw3 k0_h3
def k0_off12 (i : grid0.Coords) : Fin 3 → Nat :=
  let c0_i32_1242 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c32_i32_1240 : BitVec 32 := 32#32
  let v1607 : BitVec 32 := Scalar.addi v2 c32_i32_1240
  let c8_i32_1241 : BitVec 32 := 8#32
  let v1608 : BitVec 32 := Scalar.muli v1607 c8_i32_1241
  let c0_i32_1243_r2 : BitVec 32 := 0#32
  ![0, v1608.toNat, 0]
@[reducible] def k0_t4_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond4 (v812 : BitVec 32) : BitVec 1 :=
  let c0_i32_758 : BitVec 32 := 0#32
  let v813 : BitVec 1 := Scalar.cmpi .sgt v812 c0_i32_758
  let v814 : BitVec 32 := Scalar.extui v813
  let c0_i32_759 : BitVec 32 := 0#32
  let v815 : BitVec 1 := Scalar.cmpi .ne v814 c0_i32_759
  v815

def k0_chk4 (v812 : BitVec 32) (v1614 : IVec S16 32) : Prop :=
  (∀ (k0_h4 : k0_cond4 v812 = 1#1), ∀ a x, ((![v1614] : Fin 1 → IVec S16 32) a x).toNat < S128.size a)
theorem k0_idx4_inb : ∀ (v812 : BitVec 32) (v1614 : IVec S16 32) (k0_hw4 : k0_chk4 v812 v1614), ∀ (k0_h4 : k0_cond4 v812 = 1#1), ∀ a x, ((![v1614] : Fin 1 → IVec S16 32) a x).toNat < S128.size a := fun v812 v1614 k0_hw4 k0_h4 => k0_hw4 k0_h4
def k0_off13 (i : grid0.Coords) : Fin 3 → Nat :=
  let c0_i32_1241 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c48_i32_1239 : BitVec 32 := 48#32
  let v1607 : BitVec 32 := Scalar.addi v2 c48_i32_1239
  let c8_i32_1240 : BitVec 32 := 8#32
  let v1608 : BitVec 32 := Scalar.muli v1607 c8_i32_1240
  let c0_i32_1242_r3 : BitVec 32 := 0#32
  ![0, v1608.toNat, 0]
@[reducible] def k0_t5_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond5 (v825 : BitVec 32) : BitVec 1 :=
  let c0_i32_765 : BitVec 32 := 0#32
  let v826 : BitVec 1 := Scalar.cmpi .sgt v825 c0_i32_765
  let v827 : BitVec 32 := Scalar.extui v826
  let c0_i32_766 : BitVec 32 := 0#32
  let v828 : BitVec 1 := Scalar.cmpi .ne v827 c0_i32_766
  v828

def k0_chk5 (v825 : BitVec 32) (v1614 : IVec S16 32) : Prop :=
  (∀ (k0_h5 : k0_cond5 v825 = 1#1), ∀ a x, ((![v1614] : Fin 1 → IVec S16 32) a x).toNat < S128.size a)
theorem k0_idx5_inb : ∀ (v825 : BitVec 32) (v1614 : IVec S16 32) (k0_hw5 : k0_chk5 v825 v1614), ∀ (k0_h5 : k0_cond5 v825 = 1#1), ∀ a x, ((![v1614] : Fin 1 → IVec S16 32) a x).toNat < S128.size a := fun v825 v1614 k0_hw5 k0_h5 => k0_hw5 k0_h5
def k0_off14 (i : grid0.Coords) : Fin 3 → Nat :=
  let c0_i32_1242 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c64_i32_1240 : BitVec 32 := 64#32
  let v1607 : BitVec 32 := Scalar.addi v2 c64_i32_1240
  let c8_i32_1241 : BitVec 32 := 8#32
  let v1608 : BitVec 32 := Scalar.muli v1607 c8_i32_1241
  let c0_i32_1243_r4 : BitVec 32 := 0#32
  ![0, v1608.toNat, 0]
@[reducible] def k0_t6_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond6 (v838 : BitVec 32) : BitVec 1 :=
  let c0_i32_772 : BitVec 32 := 0#32
  let v839 : BitVec 1 := Scalar.cmpi .sgt v838 c0_i32_772
  let v840 : BitVec 32 := Scalar.extui v839
  let c0_i32_773 : BitVec 32 := 0#32
  let v841 : BitVec 1 := Scalar.cmpi .ne v840 c0_i32_773
  v841

def k0_chk6 (v838 : BitVec 32) (v1614 : IVec S16 32) : Prop :=
  (∀ (k0_h6 : k0_cond6 v838 = 1#1), ∀ a x, ((![v1614] : Fin 1 → IVec S16 32) a x).toNat < S128.size a)
theorem k0_idx6_inb : ∀ (v838 : BitVec 32) (v1614 : IVec S16 32) (k0_hw6 : k0_chk6 v838 v1614), ∀ (k0_h6 : k0_cond6 v838 = 1#1), ∀ a x, ((![v1614] : Fin 1 → IVec S16 32) a x).toNat < S128.size a := fun v838 v1614 k0_hw6 k0_h6 => k0_hw6 k0_h6
def k0_off15 (i : grid0.Coords) : Fin 3 → Nat :=
  let c0_i32_1241 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c80_i32_1239 : BitVec 32 := 80#32
  let v1607 : BitVec 32 := Scalar.addi v2 c80_i32_1239
  let c8_i32_1240 : BitVec 32 := 8#32
  let v1608 : BitVec 32 := Scalar.muli v1607 c8_i32_1240
  let c0_i32_1242_r5 : BitVec 32 := 0#32
  ![0, v1608.toNat, 0]
@[reducible] def k0_t7_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond7 (v851 : BitVec 32) : BitVec 1 :=
  let c0_i32_779 : BitVec 32 := 0#32
  let v852 : BitVec 1 := Scalar.cmpi .sgt v851 c0_i32_779
  let v853 : BitVec 32 := Scalar.extui v852
  let c0_i32_780 : BitVec 32 := 0#32
  let v854 : BitVec 1 := Scalar.cmpi .ne v853 c0_i32_780
  v854

def k0_chk7 (v851 : BitVec 32) (v1614 : IVec S16 32) : Prop :=
  (∀ (k0_h7 : k0_cond7 v851 = 1#1), ∀ a x, ((![v1614] : Fin 1 → IVec S16 32) a x).toNat < S128.size a)
theorem k0_idx7_inb : ∀ (v851 : BitVec 32) (v1614 : IVec S16 32) (k0_hw7 : k0_chk7 v851 v1614), ∀ (k0_h7 : k0_cond7 v851 = 1#1), ∀ a x, ((![v1614] : Fin 1 → IVec S16 32) a x).toNat < S128.size a := fun v851 v1614 k0_hw7 k0_h7 => k0_hw7 k0_h7
def k0_off16 (i : grid0.Coords) : Fin 3 → Nat :=
  let c0_i32_1242 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c96_i32_1240 : BitVec 32 := 96#32
  let v1607 : BitVec 32 := Scalar.addi v2 c96_i32_1240
  let c8_i32_1241 : BitVec 32 := 8#32
  let v1608 : BitVec 32 := Scalar.muli v1607 c8_i32_1241
  let c0_i32_1243_r6 : BitVec 32 := 0#32
  ![0, v1608.toNat, 0]
@[reducible] def k0_t8_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond8 (v864 : BitVec 32) : BitVec 1 :=
  let c0_i32_786 : BitVec 32 := 0#32
  let v865 : BitVec 1 := Scalar.cmpi .sgt v864 c0_i32_786
  let v866 : BitVec 32 := Scalar.extui v865
  let c0_i32_787 : BitVec 32 := 0#32
  let v867 : BitVec 1 := Scalar.cmpi .ne v866 c0_i32_787
  v867

def k0_chk8 (v864 : BitVec 32) (v1614 : IVec S16 32) : Prop :=
  (∀ (k0_h8 : k0_cond8 v864 = 1#1), ∀ a x, ((![v1614] : Fin 1 → IVec S16 32) a x).toNat < S128.size a)
theorem k0_idx8_inb : ∀ (v864 : BitVec 32) (v1614 : IVec S16 32) (k0_hw8 : k0_chk8 v864 v1614), ∀ (k0_h8 : k0_cond8 v864 = 1#1), ∀ a x, ((![v1614] : Fin 1 → IVec S16 32) a x).toNat < S128.size a := fun v864 v1614 k0_hw8 k0_h8 => k0_hw8 k0_h8
def k0_off17 (i : grid0.Coords) : Fin 3 → Nat :=
  let c0_i32_1241 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c112_i32_1239 : BitVec 32 := 112#32
  let v1607 : BitVec 32 := Scalar.addi v2 c112_i32_1239
  let c8_i32_1240 : BitVec 32 := 8#32
  let v1608 : BitVec 32 := Scalar.muli v1607 c8_i32_1240
  let c0_i32_1242_r7 : BitVec 32 := 0#32
  ![0, v1608.toNat, 0]
@[reducible] def k0_t9_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond9 (v877 : BitVec 32) : BitVec 1 :=
  let c0_i32_793 : BitVec 32 := 0#32
  let v878 : BitVec 1 := Scalar.cmpi .sgt v877 c0_i32_793
  let v879 : BitVec 32 := Scalar.extui v878
  let c0_i32_794 : BitVec 32 := 0#32
  let v880 : BitVec 1 := Scalar.cmpi .ne v879 c0_i32_794
  v880

def k0_chk9 (v877 : BitVec 32) (v1614 : IVec S16 32) : Prop :=
  (∀ (k0_h9 : k0_cond9 v877 = 1#1), ∀ a x, ((![v1614] : Fin 1 → IVec S16 32) a x).toNat < S128.size a)
theorem k0_idx9_inb : ∀ (v877 : BitVec 32) (v1614 : IVec S16 32) (k0_hw9 : k0_chk9 v877 v1614), ∀ (k0_h9 : k0_cond9 v877 = 1#1), ∀ a x, ((![v1614] : Fin 1 → IVec S16 32) a x).toNat < S128.size a := fun v877 v1614 k0_hw9 k0_h9 => k0_hw9 k0_h9
def k0_off18 (i : grid0.Coords) : Fin 3 → Nat :=
  let c0_i32_1242 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_1240 : BitVec 32 := 128#32
  let v1607 : BitVec 32 := Scalar.addi v2 c128_i32_1240
  let c8_i32_1241 : BitVec 32 := 8#32
  let v1608 : BitVec 32 := Scalar.muli v1607 c8_i32_1241
  let c0_i32_1243_r8 : BitVec 32 := 0#32
  ![0, v1608.toNat, 0]
@[reducible] def k0_t10_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond10 (v890 : BitVec 32) : BitVec 1 :=
  let c0_i32_800 : BitVec 32 := 0#32
  let v891 : BitVec 1 := Scalar.cmpi .sgt v890 c0_i32_800
  let v892 : BitVec 32 := Scalar.extui v891
  let c0_i32_801 : BitVec 32 := 0#32
  let v893 : BitVec 1 := Scalar.cmpi .ne v892 c0_i32_801
  v893

def k0_chk10 (v890 : BitVec 32) (v1614 : IVec S16 32) : Prop :=
  (∀ (k0_h10 : k0_cond10 v890 = 1#1), ∀ a x, ((![v1614] : Fin 1 → IVec S16 32) a x).toNat < S128.size a)
theorem k0_idx10_inb : ∀ (v890 : BitVec 32) (v1614 : IVec S16 32) (k0_hw10 : k0_chk10 v890 v1614), ∀ (k0_h10 : k0_cond10 v890 = 1#1), ∀ a x, ((![v1614] : Fin 1 → IVec S16 32) a x).toNat < S128.size a := fun v890 v1614 k0_hw10 k0_h10 => k0_hw10 k0_h10
def k0_off19 (i : grid0.Coords) : Fin 3 → Nat :=
  let c0_i32_1241 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c144_i32_1239 : BitVec 32 := 144#32
  let v1607 : BitVec 32 := Scalar.addi v2 c144_i32_1239
  let c8_i32_1240 : BitVec 32 := 8#32
  let v1608 : BitVec 32 := Scalar.muli v1607 c8_i32_1240
  let c0_i32_1242_r9 : BitVec 32 := 0#32
  ![0, v1608.toNat, 0]
@[reducible] def k0_t11_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond11 (v903 : BitVec 32) : BitVec 1 :=
  let c0_i32_807 : BitVec 32 := 0#32
  let v904 : BitVec 1 := Scalar.cmpi .sgt v903 c0_i32_807
  let v905 : BitVec 32 := Scalar.extui v904
  let c0_i32_808 : BitVec 32 := 0#32
  let v906 : BitVec 1 := Scalar.cmpi .ne v905 c0_i32_808
  v906

def k0_chk11 (v903 : BitVec 32) (v1614 : IVec S16 32) : Prop :=
  (∀ (k0_h11 : k0_cond11 v903 = 1#1), ∀ a x, ((![v1614] : Fin 1 → IVec S16 32) a x).toNat < S128.size a)
theorem k0_idx11_inb : ∀ (v903 : BitVec 32) (v1614 : IVec S16 32) (k0_hw11 : k0_chk11 v903 v1614), ∀ (k0_h11 : k0_cond11 v903 = 1#1), ∀ a x, ((![v1614] : Fin 1 → IVec S16 32) a x).toNat < S128.size a := fun v903 v1614 k0_hw11 k0_h11 => k0_hw11 k0_h11
def k0_off20 (i : grid0.Coords) : Fin 3 → Nat :=
  let c0_i32_1242 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c160_i32_1240 : BitVec 32 := 160#32
  let v1607 : BitVec 32 := Scalar.addi v2 c160_i32_1240
  let c8_i32_1241 : BitVec 32 := 8#32
  let v1608 : BitVec 32 := Scalar.muli v1607 c8_i32_1241
  let c0_i32_1243_r10 : BitVec 32 := 0#32
  ![0, v1608.toNat, 0]
@[reducible] def k0_t12_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond12 (v916 : BitVec 32) : BitVec 1 :=
  let c0_i32_814 : BitVec 32 := 0#32
  let v917 : BitVec 1 := Scalar.cmpi .sgt v916 c0_i32_814
  let v918 : BitVec 32 := Scalar.extui v917
  let c0_i32_815 : BitVec 32 := 0#32
  let v919 : BitVec 1 := Scalar.cmpi .ne v918 c0_i32_815
  v919

def k0_chk12 (v916 : BitVec 32) (v1614 : IVec S16 32) : Prop :=
  (∀ (k0_h12 : k0_cond12 v916 = 1#1), ∀ a x, ((![v1614] : Fin 1 → IVec S16 32) a x).toNat < S128.size a)
theorem k0_idx12_inb : ∀ (v916 : BitVec 32) (v1614 : IVec S16 32) (k0_hw12 : k0_chk12 v916 v1614), ∀ (k0_h12 : k0_cond12 v916 = 1#1), ∀ a x, ((![v1614] : Fin 1 → IVec S16 32) a x).toNat < S128.size a := fun v916 v1614 k0_hw12 k0_h12 => k0_hw12 k0_h12
def k0_off21 (i : grid0.Coords) : Fin 3 → Nat :=
  let c0_i32_1241 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c176_i32_1239 : BitVec 32 := 176#32
  let v1607 : BitVec 32 := Scalar.addi v2 c176_i32_1239
  let c8_i32_1240 : BitVec 32 := 8#32
  let v1608 : BitVec 32 := Scalar.muli v1607 c8_i32_1240
  let c0_i32_1242_r11 : BitVec 32 := 0#32
  ![0, v1608.toNat, 0]
@[reducible] def k0_t13_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond13 (v929 : BitVec 32) : BitVec 1 :=
  let c0_i32_821 : BitVec 32 := 0#32
  let v930 : BitVec 1 := Scalar.cmpi .sgt v929 c0_i32_821
  let v931 : BitVec 32 := Scalar.extui v930
  let c0_i32_822 : BitVec 32 := 0#32
  let v932 : BitVec 1 := Scalar.cmpi .ne v931 c0_i32_822
  v932

def k0_chk13 (v929 : BitVec 32) (v1614 : IVec S16 32) : Prop :=
  (∀ (k0_h13 : k0_cond13 v929 = 1#1), ∀ a x, ((![v1614] : Fin 1 → IVec S16 32) a x).toNat < S128.size a)
theorem k0_idx13_inb : ∀ (v929 : BitVec 32) (v1614 : IVec S16 32) (k0_hw13 : k0_chk13 v929 v1614), ∀ (k0_h13 : k0_cond13 v929 = 1#1), ∀ a x, ((![v1614] : Fin 1 → IVec S16 32) a x).toNat < S128.size a := fun v929 v1614 k0_hw13 k0_h13 => k0_hw13 k0_h13
def k0_off22 (i : grid0.Coords) : Fin 3 → Nat :=
  let c0_i32_1242 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c192_i32_1240 : BitVec 32 := 192#32
  let v1607 : BitVec 32 := Scalar.addi v2 c192_i32_1240
  let c8_i32_1241 : BitVec 32 := 8#32
  let v1608 : BitVec 32 := Scalar.muli v1607 c8_i32_1241
  let c0_i32_1243_r12 : BitVec 32 := 0#32
  ![0, v1608.toNat, 0]
@[reducible] def k0_t14_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond14 (v942 : BitVec 32) : BitVec 1 :=
  let c0_i32_828 : BitVec 32 := 0#32
  let v943 : BitVec 1 := Scalar.cmpi .sgt v942 c0_i32_828
  let v944 : BitVec 32 := Scalar.extui v943
  let c0_i32_829 : BitVec 32 := 0#32
  let v945 : BitVec 1 := Scalar.cmpi .ne v944 c0_i32_829
  v945

def k0_chk14 (v942 : BitVec 32) (v1614 : IVec S16 32) : Prop :=
  (∀ (k0_h14 : k0_cond14 v942 = 1#1), ∀ a x, ((![v1614] : Fin 1 → IVec S16 32) a x).toNat < S128.size a)
theorem k0_idx14_inb : ∀ (v942 : BitVec 32) (v1614 : IVec S16 32) (k0_hw14 : k0_chk14 v942 v1614), ∀ (k0_h14 : k0_cond14 v942 = 1#1), ∀ a x, ((![v1614] : Fin 1 → IVec S16 32) a x).toNat < S128.size a := fun v942 v1614 k0_hw14 k0_h14 => k0_hw14 k0_h14
def k0_off23 (i : grid0.Coords) : Fin 3 → Nat :=
  let c0_i32_1241 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c208_i32_1239 : BitVec 32 := 208#32
  let v1607 : BitVec 32 := Scalar.addi v2 c208_i32_1239
  let c8_i32_1240 : BitVec 32 := 8#32
  let v1608 : BitVec 32 := Scalar.muli v1607 c8_i32_1240
  let c0_i32_1242_r13 : BitVec 32 := 0#32
  ![0, v1608.toNat, 0]
@[reducible] def k0_t15_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond15 (v955 : BitVec 32) : BitVec 1 :=
  let c0_i32_835 : BitVec 32 := 0#32
  let v956 : BitVec 1 := Scalar.cmpi .sgt v955 c0_i32_835
  let v957 : BitVec 32 := Scalar.extui v956
  let c0_i32_836 : BitVec 32 := 0#32
  let v958 : BitVec 1 := Scalar.cmpi .ne v957 c0_i32_836
  v958

def k0_chk15 (v955 : BitVec 32) (v1614 : IVec S16 32) : Prop :=
  (∀ (k0_h15 : k0_cond15 v955 = 1#1), ∀ a x, ((![v1614] : Fin 1 → IVec S16 32) a x).toNat < S128.size a)
theorem k0_idx15_inb : ∀ (v955 : BitVec 32) (v1614 : IVec S16 32) (k0_hw15 : k0_chk15 v955 v1614), ∀ (k0_h15 : k0_cond15 v955 = 1#1), ∀ a x, ((![v1614] : Fin 1 → IVec S16 32) a x).toNat < S128.size a := fun v955 v1614 k0_hw15 k0_h15 => k0_hw15 k0_h15
def k0_off24 (i : grid0.Coords) : Fin 3 → Nat :=
  let c0_i32_1242 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c224_i32_1240 : BitVec 32 := 224#32
  let v1607 : BitVec 32 := Scalar.addi v2 c224_i32_1240
  let c8_i32_1241 : BitVec 32 := 8#32
  let v1608 : BitVec 32 := Scalar.muli v1607 c8_i32_1241
  let c0_i32_1243_r14 : BitVec 32 := 0#32
  ![0, v1608.toNat, 0]
@[reducible] def k0_t16_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond16 (v968 : BitVec 32) : BitVec 1 :=
  let c0_i32_842 : BitVec 32 := 0#32
  let v969 : BitVec 1 := Scalar.cmpi .sgt v968 c0_i32_842
  let v970 : BitVec 32 := Scalar.extui v969
  let c0_i32_843 : BitVec 32 := 0#32
  let v971 : BitVec 1 := Scalar.cmpi .ne v970 c0_i32_843
  v971

def k0_chk16 (v968 : BitVec 32) (v1614 : IVec S16 32) : Prop :=
  (∀ (k0_h16 : k0_cond16 v968 = 1#1), ∀ a x, ((![v1614] : Fin 1 → IVec S16 32) a x).toNat < S128.size a)
theorem k0_idx16_inb : ∀ (v968 : BitVec 32) (v1614 : IVec S16 32) (k0_hw16 : k0_chk16 v968 v1614), ∀ (k0_h16 : k0_cond16 v968 = 1#1), ∀ a x, ((![v1614] : Fin 1 → IVec S16 32) a x).toNat < S128.size a := fun v968 v1614 k0_hw16 k0_h16 => k0_hw16 k0_h16
def k0_off25 (i : grid0.Coords) : Fin 3 → Nat :=
  let c0_i32_1241 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c240_i32_1239 : BitVec 32 := 240#32
  let v1607 : BitVec 32 := Scalar.addi v2 c240_i32_1239
  let c8_i32_1240 : BitVec 32 := 8#32
  let v1608 : BitVec 32 := Scalar.muli v1607 c8_i32_1240
  let c0_i32_1242_r15 : BitVec 32 := 0#32
  ![0, v1608.toNat, 0]
@[reducible] def k0_t17_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond17 (v981 : BitVec 32) : BitVec 1 :=
  let c0_i32_850 : BitVec 32 := 0#32
  let v982 : BitVec 1 := Scalar.cmpi .sgt v981 c0_i32_850
  let v983 : BitVec 32 := Scalar.extui v982
  let c0_i32_851 : BitVec 32 := 0#32
  let v984 : BitVec 1 := Scalar.cmpi .ne v983 c0_i32_851
  v984

def k0_chk17 (v981 : BitVec 32) (v1614 : IVec S16 32) : Prop :=
  (∀ (k0_h17 : k0_cond17 v981 = 1#1), ∀ a x, ((![v1614] : Fin 1 → IVec S16 32) a x).toNat < S128.size a)
theorem k0_idx17_inb : ∀ (v981 : BitVec 32) (v1614 : IVec S16 32) (k0_hw17 : k0_chk17 v981 v1614), ∀ (k0_h17 : k0_cond17 v981 = 1#1), ∀ a x, ((![v1614] : Fin 1 → IVec S16 32) a x).toNat < S128.size a := fun v981 v1614 k0_hw17 k0_h17 => k0_hw17 k0_h17
def k0_off26 (i : grid0.Coords) : Fin 3 → Nat :=
  let c1_i32_1242 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_1240 : BitVec 32 := 0#32
  let v1607 : BitVec 32 := Scalar.addi v2 c0_i32_1240
  let c8_i32_1241 : BitVec 32 := 8#32
  let v1608 : BitVec 32 := Scalar.muli v1607 c8_i32_1241
  let c0_i32_1243_r16 : BitVec 32 := 0#32
  ![1, v1608.toNat, 0]
@[reducible] def k0_t18_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond18 (v994 : BitVec 32) : BitVec 1 :=
  let c0_i32_858 : BitVec 32 := 0#32
  let v995 : BitVec 1 := Scalar.cmpi .sgt v994 c0_i32_858
  let v996 : BitVec 32 := Scalar.extui v995
  let c0_i32_859 : BitVec 32 := 0#32
  let v997 : BitVec 1 := Scalar.cmpi .ne v996 c0_i32_859
  v997

def k0_chk18 (v994 : BitVec 32) (v1614 : IVec S16 32) : Prop :=
  (∀ (k0_h18 : k0_cond18 v994 = 1#1), ∀ a x, ((![v1614] : Fin 1 → IVec S16 32) a x).toNat < S128.size a)
theorem k0_idx18_inb : ∀ (v994 : BitVec 32) (v1614 : IVec S16 32) (k0_hw18 : k0_chk18 v994 v1614), ∀ (k0_h18 : k0_cond18 v994 = 1#1), ∀ a x, ((![v1614] : Fin 1 → IVec S16 32) a x).toNat < S128.size a := fun v994 v1614 k0_hw18 k0_h18 => k0_hw18 k0_h18
def k0_off27 (i : grid0.Coords) : Fin 3 → Nat :=
  let c1_i32_1241 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c16_i32_1239 : BitVec 32 := 16#32
  let v1607 : BitVec 32 := Scalar.addi v2 c16_i32_1239
  let c8_i32_1240 : BitVec 32 := 8#32
  let v1608 : BitVec 32 := Scalar.muli v1607 c8_i32_1240
  let c0_i32_1242_r17 : BitVec 32 := 0#32
  ![1, v1608.toNat, 0]
@[reducible] def k0_t19_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond19 (v1007 : BitVec 32) : BitVec 1 :=
  let c0_i32_866 : BitVec 32 := 0#32
  let v1008 : BitVec 1 := Scalar.cmpi .sgt v1007 c0_i32_866
  let v1009 : BitVec 32 := Scalar.extui v1008
  let c0_i32_867 : BitVec 32 := 0#32
  let v1010 : BitVec 1 := Scalar.cmpi .ne v1009 c0_i32_867
  v1010

def k0_chk19 (v1007 : BitVec 32) (v1614 : IVec S16 32) : Prop :=
  (∀ (k0_h19 : k0_cond19 v1007 = 1#1), ∀ a x, ((![v1614] : Fin 1 → IVec S16 32) a x).toNat < S128.size a)
theorem k0_idx19_inb : ∀ (v1007 : BitVec 32) (v1614 : IVec S16 32) (k0_hw19 : k0_chk19 v1007 v1614), ∀ (k0_h19 : k0_cond19 v1007 = 1#1), ∀ a x, ((![v1614] : Fin 1 → IVec S16 32) a x).toNat < S128.size a := fun v1007 v1614 k0_hw19 k0_h19 => k0_hw19 k0_h19
def k0_off28 (i : grid0.Coords) : Fin 3 → Nat :=
  let c1_i32_1242 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c32_i32_1240 : BitVec 32 := 32#32
  let v1607 : BitVec 32 := Scalar.addi v2 c32_i32_1240
  let c8_i32_1241 : BitVec 32 := 8#32
  let v1608 : BitVec 32 := Scalar.muli v1607 c8_i32_1241
  let c0_i32_1243_r18 : BitVec 32 := 0#32
  ![1, v1608.toNat, 0]
@[reducible] def k0_t20_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond20 (v1020 : BitVec 32) : BitVec 1 :=
  let c0_i32_874 : BitVec 32 := 0#32
  let v1021 : BitVec 1 := Scalar.cmpi .sgt v1020 c0_i32_874
  let v1022 : BitVec 32 := Scalar.extui v1021
  let c0_i32_875 : BitVec 32 := 0#32
  let v1023 : BitVec 1 := Scalar.cmpi .ne v1022 c0_i32_875
  v1023

def k0_chk20 (v1020 : BitVec 32) (v1614 : IVec S16 32) : Prop :=
  (∀ (k0_h20 : k0_cond20 v1020 = 1#1), ∀ a x, ((![v1614] : Fin 1 → IVec S16 32) a x).toNat < S128.size a)
theorem k0_idx20_inb : ∀ (v1020 : BitVec 32) (v1614 : IVec S16 32) (k0_hw20 : k0_chk20 v1020 v1614), ∀ (k0_h20 : k0_cond20 v1020 = 1#1), ∀ a x, ((![v1614] : Fin 1 → IVec S16 32) a x).toNat < S128.size a := fun v1020 v1614 k0_hw20 k0_h20 => k0_hw20 k0_h20
def k0_off29 (i : grid0.Coords) : Fin 3 → Nat :=
  let c1_i32_1241 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c48_i32_1239 : BitVec 32 := 48#32
  let v1607 : BitVec 32 := Scalar.addi v2 c48_i32_1239
  let c8_i32_1240 : BitVec 32 := 8#32
  let v1608 : BitVec 32 := Scalar.muli v1607 c8_i32_1240
  let c0_i32_1242_r19 : BitVec 32 := 0#32
  ![1, v1608.toNat, 0]
@[reducible] def k0_t21_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond21 (v1033 : BitVec 32) : BitVec 1 :=
  let c0_i32_882 : BitVec 32 := 0#32
  let v1034 : BitVec 1 := Scalar.cmpi .sgt v1033 c0_i32_882
  let v1035 : BitVec 32 := Scalar.extui v1034
  let c0_i32_883 : BitVec 32 := 0#32
  let v1036 : BitVec 1 := Scalar.cmpi .ne v1035 c0_i32_883
  v1036

def k0_chk21 (v1033 : BitVec 32) (v1614 : IVec S16 32) : Prop :=
  (∀ (k0_h21 : k0_cond21 v1033 = 1#1), ∀ a x, ((![v1614] : Fin 1 → IVec S16 32) a x).toNat < S128.size a)
theorem k0_idx21_inb : ∀ (v1033 : BitVec 32) (v1614 : IVec S16 32) (k0_hw21 : k0_chk21 v1033 v1614), ∀ (k0_h21 : k0_cond21 v1033 = 1#1), ∀ a x, ((![v1614] : Fin 1 → IVec S16 32) a x).toNat < S128.size a := fun v1033 v1614 k0_hw21 k0_h21 => k0_hw21 k0_h21
def k0_off30 (i : grid0.Coords) : Fin 3 → Nat :=
  let c1_i32_1242 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c64_i32_1240 : BitVec 32 := 64#32
  let v1607 : BitVec 32 := Scalar.addi v2 c64_i32_1240
  let c8_i32_1241 : BitVec 32 := 8#32
  let v1608 : BitVec 32 := Scalar.muli v1607 c8_i32_1241
  let c0_i32_1243_r20 : BitVec 32 := 0#32
  ![1, v1608.toNat, 0]
@[reducible] def k0_t22_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond22 (v1046 : BitVec 32) : BitVec 1 :=
  let c0_i32_890 : BitVec 32 := 0#32
  let v1047 : BitVec 1 := Scalar.cmpi .sgt v1046 c0_i32_890
  let v1048 : BitVec 32 := Scalar.extui v1047
  let c0_i32_891 : BitVec 32 := 0#32
  let v1049 : BitVec 1 := Scalar.cmpi .ne v1048 c0_i32_891
  v1049

def k0_chk22 (v1046 : BitVec 32) (v1614 : IVec S16 32) : Prop :=
  (∀ (k0_h22 : k0_cond22 v1046 = 1#1), ∀ a x, ((![v1614] : Fin 1 → IVec S16 32) a x).toNat < S128.size a)
theorem k0_idx22_inb : ∀ (v1046 : BitVec 32) (v1614 : IVec S16 32) (k0_hw22 : k0_chk22 v1046 v1614), ∀ (k0_h22 : k0_cond22 v1046 = 1#1), ∀ a x, ((![v1614] : Fin 1 → IVec S16 32) a x).toNat < S128.size a := fun v1046 v1614 k0_hw22 k0_h22 => k0_hw22 k0_h22
def k0_off31 (i : grid0.Coords) : Fin 3 → Nat :=
  let c1_i32_1241 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c80_i32_1239 : BitVec 32 := 80#32
  let v1607 : BitVec 32 := Scalar.addi v2 c80_i32_1239
  let c8_i32_1240 : BitVec 32 := 8#32
  let v1608 : BitVec 32 := Scalar.muli v1607 c8_i32_1240
  let c0_i32_1242_r21 : BitVec 32 := 0#32
  ![1, v1608.toNat, 0]
@[reducible] def k0_t23_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond23 (v1059 : BitVec 32) : BitVec 1 :=
  let c0_i32_898 : BitVec 32 := 0#32
  let v1060 : BitVec 1 := Scalar.cmpi .sgt v1059 c0_i32_898
  let v1061 : BitVec 32 := Scalar.extui v1060
  let c0_i32_899 : BitVec 32 := 0#32
  let v1062 : BitVec 1 := Scalar.cmpi .ne v1061 c0_i32_899
  v1062

def k0_chk23 (v1059 : BitVec 32) (v1614 : IVec S16 32) : Prop :=
  (∀ (k0_h23 : k0_cond23 v1059 = 1#1), ∀ a x, ((![v1614] : Fin 1 → IVec S16 32) a x).toNat < S128.size a)
theorem k0_idx23_inb : ∀ (v1059 : BitVec 32) (v1614 : IVec S16 32) (k0_hw23 : k0_chk23 v1059 v1614), ∀ (k0_h23 : k0_cond23 v1059 = 1#1), ∀ a x, ((![v1614] : Fin 1 → IVec S16 32) a x).toNat < S128.size a := fun v1059 v1614 k0_hw23 k0_h23 => k0_hw23 k0_h23
def k0_off32 (i : grid0.Coords) : Fin 3 → Nat :=
  let c1_i32_1242 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c96_i32_1240 : BitVec 32 := 96#32
  let v1607 : BitVec 32 := Scalar.addi v2 c96_i32_1240
  let c8_i32_1241 : BitVec 32 := 8#32
  let v1608 : BitVec 32 := Scalar.muli v1607 c8_i32_1241
  let c0_i32_1243_r22 : BitVec 32 := 0#32
  ![1, v1608.toNat, 0]
@[reducible] def k0_t24_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond24 (v1072 : BitVec 32) : BitVec 1 :=
  let c0_i32_906 : BitVec 32 := 0#32
  let v1073 : BitVec 1 := Scalar.cmpi .sgt v1072 c0_i32_906
  let v1074 : BitVec 32 := Scalar.extui v1073
  let c0_i32_907 : BitVec 32 := 0#32
  let v1075 : BitVec 1 := Scalar.cmpi .ne v1074 c0_i32_907
  v1075

def k0_chk24 (v1072 : BitVec 32) (v1614 : IVec S16 32) : Prop :=
  (∀ (k0_h24 : k0_cond24 v1072 = 1#1), ∀ a x, ((![v1614] : Fin 1 → IVec S16 32) a x).toNat < S128.size a)
theorem k0_idx24_inb : ∀ (v1072 : BitVec 32) (v1614 : IVec S16 32) (k0_hw24 : k0_chk24 v1072 v1614), ∀ (k0_h24 : k0_cond24 v1072 = 1#1), ∀ a x, ((![v1614] : Fin 1 → IVec S16 32) a x).toNat < S128.size a := fun v1072 v1614 k0_hw24 k0_h24 => k0_hw24 k0_h24
def k0_off33 (i : grid0.Coords) : Fin 3 → Nat :=
  let c1_i32_1241 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c112_i32_1239 : BitVec 32 := 112#32
  let v1607 : BitVec 32 := Scalar.addi v2 c112_i32_1239
  let c8_i32_1240 : BitVec 32 := 8#32
  let v1608 : BitVec 32 := Scalar.muli v1607 c8_i32_1240
  let c0_i32_1242_r23 : BitVec 32 := 0#32
  ![1, v1608.toNat, 0]
@[reducible] def k0_t25_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond25 (v1085 : BitVec 32) : BitVec 1 :=
  let c0_i32_914 : BitVec 32 := 0#32
  let v1086 : BitVec 1 := Scalar.cmpi .sgt v1085 c0_i32_914
  let v1087 : BitVec 32 := Scalar.extui v1086
  let c0_i32_915 : BitVec 32 := 0#32
  let v1088 : BitVec 1 := Scalar.cmpi .ne v1087 c0_i32_915
  v1088

def k0_chk25 (v1085 : BitVec 32) (v1614 : IVec S16 32) : Prop :=
  (∀ (k0_h25 : k0_cond25 v1085 = 1#1), ∀ a x, ((![v1614] : Fin 1 → IVec S16 32) a x).toNat < S128.size a)
theorem k0_idx25_inb : ∀ (v1085 : BitVec 32) (v1614 : IVec S16 32) (k0_hw25 : k0_chk25 v1085 v1614), ∀ (k0_h25 : k0_cond25 v1085 = 1#1), ∀ a x, ((![v1614] : Fin 1 → IVec S16 32) a x).toNat < S128.size a := fun v1085 v1614 k0_hw25 k0_h25 => k0_hw25 k0_h25
def k0_off34 (i : grid0.Coords) : Fin 3 → Nat :=
  let c1_i32_1242 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_1240 : BitVec 32 := 128#32
  let v1607 : BitVec 32 := Scalar.addi v2 c128_i32_1240
  let c8_i32_1241 : BitVec 32 := 8#32
  let v1608 : BitVec 32 := Scalar.muli v1607 c8_i32_1241
  let c0_i32_1243_r24 : BitVec 32 := 0#32
  ![1, v1608.toNat, 0]
@[reducible] def k0_t26_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond26 (v1098 : BitVec 32) : BitVec 1 :=
  let c0_i32_922 : BitVec 32 := 0#32
  let v1099 : BitVec 1 := Scalar.cmpi .sgt v1098 c0_i32_922
  let v1100 : BitVec 32 := Scalar.extui v1099
  let c0_i32_923 : BitVec 32 := 0#32
  let v1101 : BitVec 1 := Scalar.cmpi .ne v1100 c0_i32_923
  v1101

def k0_chk26 (v1098 : BitVec 32) (v1614 : IVec S16 32) : Prop :=
  (∀ (k0_h26 : k0_cond26 v1098 = 1#1), ∀ a x, ((![v1614] : Fin 1 → IVec S16 32) a x).toNat < S128.size a)
theorem k0_idx26_inb : ∀ (v1098 : BitVec 32) (v1614 : IVec S16 32) (k0_hw26 : k0_chk26 v1098 v1614), ∀ (k0_h26 : k0_cond26 v1098 = 1#1), ∀ a x, ((![v1614] : Fin 1 → IVec S16 32) a x).toNat < S128.size a := fun v1098 v1614 k0_hw26 k0_h26 => k0_hw26 k0_h26
def k0_off35 (i : grid0.Coords) : Fin 3 → Nat :=
  let c1_i32_1241 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c144_i32_1239 : BitVec 32 := 144#32
  let v1607 : BitVec 32 := Scalar.addi v2 c144_i32_1239
  let c8_i32_1240 : BitVec 32 := 8#32
  let v1608 : BitVec 32 := Scalar.muli v1607 c8_i32_1240
  let c0_i32_1242_r25 : BitVec 32 := 0#32
  ![1, v1608.toNat, 0]
@[reducible] def k0_t27_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond27 (v1111 : BitVec 32) : BitVec 1 :=
  let c0_i32_930 : BitVec 32 := 0#32
  let v1112 : BitVec 1 := Scalar.cmpi .sgt v1111 c0_i32_930
  let v1113 : BitVec 32 := Scalar.extui v1112
  let c0_i32_931 : BitVec 32 := 0#32
  let v1114 : BitVec 1 := Scalar.cmpi .ne v1113 c0_i32_931
  v1114

def k0_chk27 (v1111 : BitVec 32) (v1614 : IVec S16 32) : Prop :=
  (∀ (k0_h27 : k0_cond27 v1111 = 1#1), ∀ a x, ((![v1614] : Fin 1 → IVec S16 32) a x).toNat < S128.size a)
theorem k0_idx27_inb : ∀ (v1111 : BitVec 32) (v1614 : IVec S16 32) (k0_hw27 : k0_chk27 v1111 v1614), ∀ (k0_h27 : k0_cond27 v1111 = 1#1), ∀ a x, ((![v1614] : Fin 1 → IVec S16 32) a x).toNat < S128.size a := fun v1111 v1614 k0_hw27 k0_h27 => k0_hw27 k0_h27
def k0_off36 (i : grid0.Coords) : Fin 3 → Nat :=
  let c1_i32_1242 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c160_i32_1240 : BitVec 32 := 160#32
  let v1607 : BitVec 32 := Scalar.addi v2 c160_i32_1240
  let c8_i32_1241 : BitVec 32 := 8#32
  let v1608 : BitVec 32 := Scalar.muli v1607 c8_i32_1241
  let c0_i32_1243_r26 : BitVec 32 := 0#32
  ![1, v1608.toNat, 0]
@[reducible] def k0_t28_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond28 (v1124 : BitVec 32) : BitVec 1 :=
  let c0_i32_938 : BitVec 32 := 0#32
  let v1125 : BitVec 1 := Scalar.cmpi .sgt v1124 c0_i32_938
  let v1126 : BitVec 32 := Scalar.extui v1125
  let c0_i32_939 : BitVec 32 := 0#32
  let v1127 : BitVec 1 := Scalar.cmpi .ne v1126 c0_i32_939
  v1127

def k0_chk28 (v1124 : BitVec 32) (v1614 : IVec S16 32) : Prop :=
  (∀ (k0_h28 : k0_cond28 v1124 = 1#1), ∀ a x, ((![v1614] : Fin 1 → IVec S16 32) a x).toNat < S128.size a)
theorem k0_idx28_inb : ∀ (v1124 : BitVec 32) (v1614 : IVec S16 32) (k0_hw28 : k0_chk28 v1124 v1614), ∀ (k0_h28 : k0_cond28 v1124 = 1#1), ∀ a x, ((![v1614] : Fin 1 → IVec S16 32) a x).toNat < S128.size a := fun v1124 v1614 k0_hw28 k0_h28 => k0_hw28 k0_h28
def k0_off37 (i : grid0.Coords) : Fin 3 → Nat :=
  let c1_i32_1241 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c176_i32_1239 : BitVec 32 := 176#32
  let v1607 : BitVec 32 := Scalar.addi v2 c176_i32_1239
  let c8_i32_1240 : BitVec 32 := 8#32
  let v1608 : BitVec 32 := Scalar.muli v1607 c8_i32_1240
  let c0_i32_1242_r27 : BitVec 32 := 0#32
  ![1, v1608.toNat, 0]
@[reducible] def k0_t29_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond29 (v1137 : BitVec 32) : BitVec 1 :=
  let c0_i32_946 : BitVec 32 := 0#32
  let v1138 : BitVec 1 := Scalar.cmpi .sgt v1137 c0_i32_946
  let v1139 : BitVec 32 := Scalar.extui v1138
  let c0_i32_947 : BitVec 32 := 0#32
  let v1140 : BitVec 1 := Scalar.cmpi .ne v1139 c0_i32_947
  v1140

def k0_chk29 (v1137 : BitVec 32) (v1614 : IVec S16 32) : Prop :=
  (∀ (k0_h29 : k0_cond29 v1137 = 1#1), ∀ a x, ((![v1614] : Fin 1 → IVec S16 32) a x).toNat < S128.size a)
theorem k0_idx29_inb : ∀ (v1137 : BitVec 32) (v1614 : IVec S16 32) (k0_hw29 : k0_chk29 v1137 v1614), ∀ (k0_h29 : k0_cond29 v1137 = 1#1), ∀ a x, ((![v1614] : Fin 1 → IVec S16 32) a x).toNat < S128.size a := fun v1137 v1614 k0_hw29 k0_h29 => k0_hw29 k0_h29
def k0_off38 (i : grid0.Coords) : Fin 3 → Nat :=
  let c1_i32_1242 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c192_i32_1240 : BitVec 32 := 192#32
  let v1607 : BitVec 32 := Scalar.addi v2 c192_i32_1240
  let c8_i32_1241 : BitVec 32 := 8#32
  let v1608 : BitVec 32 := Scalar.muli v1607 c8_i32_1241
  let c0_i32_1243_r28 : BitVec 32 := 0#32
  ![1, v1608.toNat, 0]
@[reducible] def k0_t30_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond30 (v1150 : BitVec 32) : BitVec 1 :=
  let c0_i32_954 : BitVec 32 := 0#32
  let v1151 : BitVec 1 := Scalar.cmpi .sgt v1150 c0_i32_954
  let v1152 : BitVec 32 := Scalar.extui v1151
  let c0_i32_955 : BitVec 32 := 0#32
  let v1153 : BitVec 1 := Scalar.cmpi .ne v1152 c0_i32_955
  v1153

def k0_chk30 (v1150 : BitVec 32) (v1614 : IVec S16 32) : Prop :=
  (∀ (k0_h30 : k0_cond30 v1150 = 1#1), ∀ a x, ((![v1614] : Fin 1 → IVec S16 32) a x).toNat < S128.size a)
theorem k0_idx30_inb : ∀ (v1150 : BitVec 32) (v1614 : IVec S16 32) (k0_hw30 : k0_chk30 v1150 v1614), ∀ (k0_h30 : k0_cond30 v1150 = 1#1), ∀ a x, ((![v1614] : Fin 1 → IVec S16 32) a x).toNat < S128.size a := fun v1150 v1614 k0_hw30 k0_h30 => k0_hw30 k0_h30
def k0_off39 (i : grid0.Coords) : Fin 3 → Nat :=
  let c1_i32_1241 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c208_i32_1239 : BitVec 32 := 208#32
  let v1607 : BitVec 32 := Scalar.addi v2 c208_i32_1239
  let c8_i32_1240 : BitVec 32 := 8#32
  let v1608 : BitVec 32 := Scalar.muli v1607 c8_i32_1240
  let c0_i32_1242_r29 : BitVec 32 := 0#32
  ![1, v1608.toNat, 0]
@[reducible] def k0_t31_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond31 (v1163 : BitVec 32) : BitVec 1 :=
  let c0_i32_962 : BitVec 32 := 0#32
  let v1164 : BitVec 1 := Scalar.cmpi .sgt v1163 c0_i32_962
  let v1165 : BitVec 32 := Scalar.extui v1164
  let c0_i32_963 : BitVec 32 := 0#32
  let v1166 : BitVec 1 := Scalar.cmpi .ne v1165 c0_i32_963
  v1166

def k0_chk31 (v1163 : BitVec 32) (v1614 : IVec S16 32) : Prop :=
  (∀ (k0_h31 : k0_cond31 v1163 = 1#1), ∀ a x, ((![v1614] : Fin 1 → IVec S16 32) a x).toNat < S128.size a)
theorem k0_idx31_inb : ∀ (v1163 : BitVec 32) (v1614 : IVec S16 32) (k0_hw31 : k0_chk31 v1163 v1614), ∀ (k0_h31 : k0_cond31 v1163 = 1#1), ∀ a x, ((![v1614] : Fin 1 → IVec S16 32) a x).toNat < S128.size a := fun v1163 v1614 k0_hw31 k0_h31 => k0_hw31 k0_h31
def k0_off40 (i : grid0.Coords) : Fin 3 → Nat :=
  let c1_i32_1242 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c224_i32_1240 : BitVec 32 := 224#32
  let v1607 : BitVec 32 := Scalar.addi v2 c224_i32_1240
  let c8_i32_1241 : BitVec 32 := 8#32
  let v1608 : BitVec 32 := Scalar.muli v1607 c8_i32_1241
  let c0_i32_1243_r30 : BitVec 32 := 0#32
  ![1, v1608.toNat, 0]
@[reducible] def k0_t32_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond32 (v1176 : BitVec 32) : BitVec 1 :=
  let c0_i32_970 : BitVec 32 := 0#32
  let v1177 : BitVec 1 := Scalar.cmpi .sgt v1176 c0_i32_970
  let v1178 : BitVec 32 := Scalar.extui v1177
  let c0_i32_971 : BitVec 32 := 0#32
  let v1179 : BitVec 1 := Scalar.cmpi .ne v1178 c0_i32_971
  v1179

def k0_chk32 (v1176 : BitVec 32) (v1614 : IVec S16 32) : Prop :=
  (∀ (k0_h32 : k0_cond32 v1176 = 1#1), ∀ a x, ((![v1614] : Fin 1 → IVec S16 32) a x).toNat < S128.size a)
theorem k0_idx32_inb : ∀ (v1176 : BitVec 32) (v1614 : IVec S16 32) (k0_hw32 : k0_chk32 v1176 v1614), ∀ (k0_h32 : k0_cond32 v1176 = 1#1), ∀ a x, ((![v1614] : Fin 1 → IVec S16 32) a x).toNat < S128.size a := fun v1176 v1614 k0_hw32 k0_h32 => k0_hw32 k0_h32
def k0_off41 (i : grid0.Coords) : Fin 3 → Nat :=
  let c1_i32_1241 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c240_i32_1239 : BitVec 32 := 240#32
  let v1607 : BitVec 32 := Scalar.addi v2 c240_i32_1239
  let c8_i32_1240 : BitVec 32 := 8#32
  let v1608 : BitVec 32 := Scalar.muli v1607 c8_i32_1240
  let c0_i32_1242_r31 : BitVec 32 := 0#32
  ![1, v1608.toNat, 0]
@[reducible] def k0_t33_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond33 (v1189 : BitVec 32) : BitVec 1 :=
  let c0_i32_978 : BitVec 32 := 0#32
  let v1190 : BitVec 1 := Scalar.cmpi .sgt v1189 c0_i32_978
  let v1191 : BitVec 32 := Scalar.extui v1190
  let c0_i32_979 : BitVec 32 := 0#32
  let v1192 : BitVec 1 := Scalar.cmpi .ne v1191 c0_i32_979
  v1192

def k0_chk33 (v1189 : BitVec 32) (v1614 : IVec S16 32) : Prop :=
  (∀ (k0_h33 : k0_cond33 v1189 = 1#1), ∀ a x, ((![v1614] : Fin 1 → IVec S16 32) a x).toNat < S128.size a)
theorem k0_idx33_inb : ∀ (v1189 : BitVec 32) (v1614 : IVec S16 32) (k0_hw33 : k0_chk33 v1189 v1614), ∀ (k0_h33 : k0_cond33 v1189 = 1#1), ∀ a x, ((![v1614] : Fin 1 → IVec S16 32) a x).toNat < S128.size a := fun v1189 v1614 k0_hw33 k0_h33 => k0_hw33 k0_h33
def k0_off42 (i : grid0.Coords) : Fin 3 → Nat :=
  let c2_i32_1242 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_1240 : BitVec 32 := 0#32
  let v1607 : BitVec 32 := Scalar.addi v2 c0_i32_1240
  let c8_i32_1241 : BitVec 32 := 8#32
  let v1608 : BitVec 32 := Scalar.muli v1607 c8_i32_1241
  let c0_i32_1243_r32 : BitVec 32 := 0#32
  ![2, v1608.toNat, 0]
@[reducible] def k0_t34_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond34 (v1202 : BitVec 32) : BitVec 1 :=
  let c0_i32_986 : BitVec 32 := 0#32
  let v1203 : BitVec 1 := Scalar.cmpi .sgt v1202 c0_i32_986
  let v1204 : BitVec 32 := Scalar.extui v1203
  let c0_i32_987 : BitVec 32 := 0#32
  let v1205 : BitVec 1 := Scalar.cmpi .ne v1204 c0_i32_987
  v1205

def k0_chk34 (v1202 : BitVec 32) (v1614 : IVec S16 32) : Prop :=
  (∀ (k0_h34 : k0_cond34 v1202 = 1#1), ∀ a x, ((![v1614] : Fin 1 → IVec S16 32) a x).toNat < S128.size a)
theorem k0_idx34_inb : ∀ (v1202 : BitVec 32) (v1614 : IVec S16 32) (k0_hw34 : k0_chk34 v1202 v1614), ∀ (k0_h34 : k0_cond34 v1202 = 1#1), ∀ a x, ((![v1614] : Fin 1 → IVec S16 32) a x).toNat < S128.size a := fun v1202 v1614 k0_hw34 k0_h34 => k0_hw34 k0_h34
def k0_off43 (i : grid0.Coords) : Fin 3 → Nat :=
  let c2_i32_1241 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c16_i32_1239 : BitVec 32 := 16#32
  let v1607 : BitVec 32 := Scalar.addi v2 c16_i32_1239
  let c8_i32_1240 : BitVec 32 := 8#32
  let v1608 : BitVec 32 := Scalar.muli v1607 c8_i32_1240
  let c0_i32_1242_r33 : BitVec 32 := 0#32
  ![2, v1608.toNat, 0]
@[reducible] def k0_t35_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond35 (v1215 : BitVec 32) : BitVec 1 :=
  let c0_i32_994 : BitVec 32 := 0#32
  let v1216 : BitVec 1 := Scalar.cmpi .sgt v1215 c0_i32_994
  let v1217 : BitVec 32 := Scalar.extui v1216
  let c0_i32_995 : BitVec 32 := 0#32
  let v1218 : BitVec 1 := Scalar.cmpi .ne v1217 c0_i32_995
  v1218

def k0_chk35 (v1215 : BitVec 32) (v1614 : IVec S16 32) : Prop :=
  (∀ (k0_h35 : k0_cond35 v1215 = 1#1), ∀ a x, ((![v1614] : Fin 1 → IVec S16 32) a x).toNat < S128.size a)
theorem k0_idx35_inb : ∀ (v1215 : BitVec 32) (v1614 : IVec S16 32) (k0_hw35 : k0_chk35 v1215 v1614), ∀ (k0_h35 : k0_cond35 v1215 = 1#1), ∀ a x, ((![v1614] : Fin 1 → IVec S16 32) a x).toNat < S128.size a := fun v1215 v1614 k0_hw35 k0_h35 => k0_hw35 k0_h35
def k0_off44 (i : grid0.Coords) : Fin 3 → Nat :=
  let c2_i32_1242 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c32_i32_1240 : BitVec 32 := 32#32
  let v1607 : BitVec 32 := Scalar.addi v2 c32_i32_1240
  let c8_i32_1241 : BitVec 32 := 8#32
  let v1608 : BitVec 32 := Scalar.muli v1607 c8_i32_1241
  let c0_i32_1243_r34 : BitVec 32 := 0#32
  ![2, v1608.toNat, 0]
@[reducible] def k0_t36_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond36 (v1228 : BitVec 32) : BitVec 1 :=
  let c0_i32_1002 : BitVec 32 := 0#32
  let v1229 : BitVec 1 := Scalar.cmpi .sgt v1228 c0_i32_1002
  let v1230 : BitVec 32 := Scalar.extui v1229
  let c0_i32_1003 : BitVec 32 := 0#32
  let v1231 : BitVec 1 := Scalar.cmpi .ne v1230 c0_i32_1003
  v1231

def k0_chk36 (v1228 : BitVec 32) (v1614 : IVec S16 32) : Prop :=
  (∀ (k0_h36 : k0_cond36 v1228 = 1#1), ∀ a x, ((![v1614] : Fin 1 → IVec S16 32) a x).toNat < S128.size a)
theorem k0_idx36_inb : ∀ (v1228 : BitVec 32) (v1614 : IVec S16 32) (k0_hw36 : k0_chk36 v1228 v1614), ∀ (k0_h36 : k0_cond36 v1228 = 1#1), ∀ a x, ((![v1614] : Fin 1 → IVec S16 32) a x).toNat < S128.size a := fun v1228 v1614 k0_hw36 k0_h36 => k0_hw36 k0_h36
def k0_off45 (i : grid0.Coords) : Fin 3 → Nat :=
  let c2_i32_1241 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c48_i32_1239 : BitVec 32 := 48#32
  let v1607 : BitVec 32 := Scalar.addi v2 c48_i32_1239
  let c8_i32_1240 : BitVec 32 := 8#32
  let v1608 : BitVec 32 := Scalar.muli v1607 c8_i32_1240
  let c0_i32_1242_r35 : BitVec 32 := 0#32
  ![2, v1608.toNat, 0]
@[reducible] def k0_t37_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond37 (v1241 : BitVec 32) : BitVec 1 :=
  let c0_i32_1010 : BitVec 32 := 0#32
  let v1242 : BitVec 1 := Scalar.cmpi .sgt v1241 c0_i32_1010
  let v1243 : BitVec 32 := Scalar.extui v1242
  let c0_i32_1011 : BitVec 32 := 0#32
  let v1244 : BitVec 1 := Scalar.cmpi .ne v1243 c0_i32_1011
  v1244

def k0_chk37 (v1241 : BitVec 32) (v1614 : IVec S16 32) : Prop :=
  (∀ (k0_h37 : k0_cond37 v1241 = 1#1), ∀ a x, ((![v1614] : Fin 1 → IVec S16 32) a x).toNat < S128.size a)
theorem k0_idx37_inb : ∀ (v1241 : BitVec 32) (v1614 : IVec S16 32) (k0_hw37 : k0_chk37 v1241 v1614), ∀ (k0_h37 : k0_cond37 v1241 = 1#1), ∀ a x, ((![v1614] : Fin 1 → IVec S16 32) a x).toNat < S128.size a := fun v1241 v1614 k0_hw37 k0_h37 => k0_hw37 k0_h37
def k0_off46 (i : grid0.Coords) : Fin 3 → Nat :=
  let c2_i32_1242 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c64_i32_1240 : BitVec 32 := 64#32
  let v1607 : BitVec 32 := Scalar.addi v2 c64_i32_1240
  let c8_i32_1241 : BitVec 32 := 8#32
  let v1608 : BitVec 32 := Scalar.muli v1607 c8_i32_1241
  let c0_i32_1243_r36 : BitVec 32 := 0#32
  ![2, v1608.toNat, 0]
@[reducible] def k0_t38_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond38 (v1254 : BitVec 32) : BitVec 1 :=
  let c0_i32_1018 : BitVec 32 := 0#32
  let v1255 : BitVec 1 := Scalar.cmpi .sgt v1254 c0_i32_1018
  let v1256 : BitVec 32 := Scalar.extui v1255
  let c0_i32_1019 : BitVec 32 := 0#32
  let v1257 : BitVec 1 := Scalar.cmpi .ne v1256 c0_i32_1019
  v1257

def k0_chk38 (v1254 : BitVec 32) (v1614 : IVec S16 32) : Prop :=
  (∀ (k0_h38 : k0_cond38 v1254 = 1#1), ∀ a x, ((![v1614] : Fin 1 → IVec S16 32) a x).toNat < S128.size a)
theorem k0_idx38_inb : ∀ (v1254 : BitVec 32) (v1614 : IVec S16 32) (k0_hw38 : k0_chk38 v1254 v1614), ∀ (k0_h38 : k0_cond38 v1254 = 1#1), ∀ a x, ((![v1614] : Fin 1 → IVec S16 32) a x).toNat < S128.size a := fun v1254 v1614 k0_hw38 k0_h38 => k0_hw38 k0_h38
def k0_off47 (i : grid0.Coords) : Fin 3 → Nat :=
  let c2_i32_1241 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c80_i32_1239 : BitVec 32 := 80#32
  let v1607 : BitVec 32 := Scalar.addi v2 c80_i32_1239
  let c8_i32_1240 : BitVec 32 := 8#32
  let v1608 : BitVec 32 := Scalar.muli v1607 c8_i32_1240
  let c0_i32_1242_r37 : BitVec 32 := 0#32
  ![2, v1608.toNat, 0]
@[reducible] def k0_t39_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond39 (v1267 : BitVec 32) : BitVec 1 :=
  let c0_i32_1026 : BitVec 32 := 0#32
  let v1268 : BitVec 1 := Scalar.cmpi .sgt v1267 c0_i32_1026
  let v1269 : BitVec 32 := Scalar.extui v1268
  let c0_i32_1027 : BitVec 32 := 0#32
  let v1270 : BitVec 1 := Scalar.cmpi .ne v1269 c0_i32_1027
  v1270

def k0_chk39 (v1267 : BitVec 32) (v1614 : IVec S16 32) : Prop :=
  (∀ (k0_h39 : k0_cond39 v1267 = 1#1), ∀ a x, ((![v1614] : Fin 1 → IVec S16 32) a x).toNat < S128.size a)
theorem k0_idx39_inb : ∀ (v1267 : BitVec 32) (v1614 : IVec S16 32) (k0_hw39 : k0_chk39 v1267 v1614), ∀ (k0_h39 : k0_cond39 v1267 = 1#1), ∀ a x, ((![v1614] : Fin 1 → IVec S16 32) a x).toNat < S128.size a := fun v1267 v1614 k0_hw39 k0_h39 => k0_hw39 k0_h39
def k0_off48 (i : grid0.Coords) : Fin 3 → Nat :=
  let c2_i32_1242 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c96_i32_1240 : BitVec 32 := 96#32
  let v1607 : BitVec 32 := Scalar.addi v2 c96_i32_1240
  let c8_i32_1241 : BitVec 32 := 8#32
  let v1608 : BitVec 32 := Scalar.muli v1607 c8_i32_1241
  let c0_i32_1243_r38 : BitVec 32 := 0#32
  ![2, v1608.toNat, 0]
@[reducible] def k0_t40_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond40 (v1280 : BitVec 32) : BitVec 1 :=
  let c0_i32_1034 : BitVec 32 := 0#32
  let v1281 : BitVec 1 := Scalar.cmpi .sgt v1280 c0_i32_1034
  let v1282 : BitVec 32 := Scalar.extui v1281
  let c0_i32_1035 : BitVec 32 := 0#32
  let v1283 : BitVec 1 := Scalar.cmpi .ne v1282 c0_i32_1035
  v1283

def k0_chk40 (v1280 : BitVec 32) (v1614 : IVec S16 32) : Prop :=
  (∀ (k0_h40 : k0_cond40 v1280 = 1#1), ∀ a x, ((![v1614] : Fin 1 → IVec S16 32) a x).toNat < S128.size a)
theorem k0_idx40_inb : ∀ (v1280 : BitVec 32) (v1614 : IVec S16 32) (k0_hw40 : k0_chk40 v1280 v1614), ∀ (k0_h40 : k0_cond40 v1280 = 1#1), ∀ a x, ((![v1614] : Fin 1 → IVec S16 32) a x).toNat < S128.size a := fun v1280 v1614 k0_hw40 k0_h40 => k0_hw40 k0_h40
def k0_off49 (i : grid0.Coords) : Fin 3 → Nat :=
  let c2_i32_1241 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c112_i32_1239 : BitVec 32 := 112#32
  let v1607 : BitVec 32 := Scalar.addi v2 c112_i32_1239
  let c8_i32_1240 : BitVec 32 := 8#32
  let v1608 : BitVec 32 := Scalar.muli v1607 c8_i32_1240
  let c0_i32_1242_r39 : BitVec 32 := 0#32
  ![2, v1608.toNat, 0]
@[reducible] def k0_t41_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond41 (v1293 : BitVec 32) : BitVec 1 :=
  let c0_i32_1042 : BitVec 32 := 0#32
  let v1294 : BitVec 1 := Scalar.cmpi .sgt v1293 c0_i32_1042
  let v1295 : BitVec 32 := Scalar.extui v1294
  let c0_i32_1043 : BitVec 32 := 0#32
  let v1296 : BitVec 1 := Scalar.cmpi .ne v1295 c0_i32_1043
  v1296

def k0_chk41 (v1293 : BitVec 32) (v1614 : IVec S16 32) : Prop :=
  (∀ (k0_h41 : k0_cond41 v1293 = 1#1), ∀ a x, ((![v1614] : Fin 1 → IVec S16 32) a x).toNat < S128.size a)
theorem k0_idx41_inb : ∀ (v1293 : BitVec 32) (v1614 : IVec S16 32) (k0_hw41 : k0_chk41 v1293 v1614), ∀ (k0_h41 : k0_cond41 v1293 = 1#1), ∀ a x, ((![v1614] : Fin 1 → IVec S16 32) a x).toNat < S128.size a := fun v1293 v1614 k0_hw41 k0_h41 => k0_hw41 k0_h41
def k0_off50 (i : grid0.Coords) : Fin 3 → Nat :=
  let c2_i32_1242 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_1240 : BitVec 32 := 128#32
  let v1607 : BitVec 32 := Scalar.addi v2 c128_i32_1240
  let c8_i32_1241 : BitVec 32 := 8#32
  let v1608 : BitVec 32 := Scalar.muli v1607 c8_i32_1241
  let c0_i32_1243_r40 : BitVec 32 := 0#32
  ![2, v1608.toNat, 0]
@[reducible] def k0_t42_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond42 (v1306 : BitVec 32) : BitVec 1 :=
  let c0_i32_1050 : BitVec 32 := 0#32
  let v1307 : BitVec 1 := Scalar.cmpi .sgt v1306 c0_i32_1050
  let v1308 : BitVec 32 := Scalar.extui v1307
  let c0_i32_1051 : BitVec 32 := 0#32
  let v1309 : BitVec 1 := Scalar.cmpi .ne v1308 c0_i32_1051
  v1309

def k0_chk42 (v1306 : BitVec 32) (v1614 : IVec S16 32) : Prop :=
  (∀ (k0_h42 : k0_cond42 v1306 = 1#1), ∀ a x, ((![v1614] : Fin 1 → IVec S16 32) a x).toNat < S128.size a)
theorem k0_idx42_inb : ∀ (v1306 : BitVec 32) (v1614 : IVec S16 32) (k0_hw42 : k0_chk42 v1306 v1614), ∀ (k0_h42 : k0_cond42 v1306 = 1#1), ∀ a x, ((![v1614] : Fin 1 → IVec S16 32) a x).toNat < S128.size a := fun v1306 v1614 k0_hw42 k0_h42 => k0_hw42 k0_h42
def k0_off51 (i : grid0.Coords) : Fin 3 → Nat :=
  let c2_i32_1241 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c144_i32_1239 : BitVec 32 := 144#32
  let v1607 : BitVec 32 := Scalar.addi v2 c144_i32_1239
  let c8_i32_1240 : BitVec 32 := 8#32
  let v1608 : BitVec 32 := Scalar.muli v1607 c8_i32_1240
  let c0_i32_1242_r41 : BitVec 32 := 0#32
  ![2, v1608.toNat, 0]
@[reducible] def k0_t43_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond43 (v1319 : BitVec 32) : BitVec 1 :=
  let c0_i32_1058 : BitVec 32 := 0#32
  let v1320 : BitVec 1 := Scalar.cmpi .sgt v1319 c0_i32_1058
  let v1321 : BitVec 32 := Scalar.extui v1320
  let c0_i32_1059 : BitVec 32 := 0#32
  let v1322 : BitVec 1 := Scalar.cmpi .ne v1321 c0_i32_1059
  v1322

def k0_chk43 (v1319 : BitVec 32) (v1614 : IVec S16 32) : Prop :=
  (∀ (k0_h43 : k0_cond43 v1319 = 1#1), ∀ a x, ((![v1614] : Fin 1 → IVec S16 32) a x).toNat < S128.size a)
theorem k0_idx43_inb : ∀ (v1319 : BitVec 32) (v1614 : IVec S16 32) (k0_hw43 : k0_chk43 v1319 v1614), ∀ (k0_h43 : k0_cond43 v1319 = 1#1), ∀ a x, ((![v1614] : Fin 1 → IVec S16 32) a x).toNat < S128.size a := fun v1319 v1614 k0_hw43 k0_h43 => k0_hw43 k0_h43
def k0_off52 (i : grid0.Coords) : Fin 3 → Nat :=
  let c2_i32_1242 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c160_i32_1240 : BitVec 32 := 160#32
  let v1607 : BitVec 32 := Scalar.addi v2 c160_i32_1240
  let c8_i32_1241 : BitVec 32 := 8#32
  let v1608 : BitVec 32 := Scalar.muli v1607 c8_i32_1241
  let c0_i32_1243_r42 : BitVec 32 := 0#32
  ![2, v1608.toNat, 0]
@[reducible] def k0_t44_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond44 (v1332 : BitVec 32) : BitVec 1 :=
  let c0_i32_1066 : BitVec 32 := 0#32
  let v1333 : BitVec 1 := Scalar.cmpi .sgt v1332 c0_i32_1066
  let v1334 : BitVec 32 := Scalar.extui v1333
  let c0_i32_1067 : BitVec 32 := 0#32
  let v1335 : BitVec 1 := Scalar.cmpi .ne v1334 c0_i32_1067
  v1335

def k0_chk44 (v1332 : BitVec 32) (v1614 : IVec S16 32) : Prop :=
  (∀ (k0_h44 : k0_cond44 v1332 = 1#1), ∀ a x, ((![v1614] : Fin 1 → IVec S16 32) a x).toNat < S128.size a)
theorem k0_idx44_inb : ∀ (v1332 : BitVec 32) (v1614 : IVec S16 32) (k0_hw44 : k0_chk44 v1332 v1614), ∀ (k0_h44 : k0_cond44 v1332 = 1#1), ∀ a x, ((![v1614] : Fin 1 → IVec S16 32) a x).toNat < S128.size a := fun v1332 v1614 k0_hw44 k0_h44 => k0_hw44 k0_h44
def k0_off53 (i : grid0.Coords) : Fin 3 → Nat :=
  let c2_i32_1241 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c176_i32_1239 : BitVec 32 := 176#32
  let v1607 : BitVec 32 := Scalar.addi v2 c176_i32_1239
  let c8_i32_1240 : BitVec 32 := 8#32
  let v1608 : BitVec 32 := Scalar.muli v1607 c8_i32_1240
  let c0_i32_1242_r43 : BitVec 32 := 0#32
  ![2, v1608.toNat, 0]
@[reducible] def k0_t45_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond45 (v1345 : BitVec 32) : BitVec 1 :=
  let c0_i32_1074 : BitVec 32 := 0#32
  let v1346 : BitVec 1 := Scalar.cmpi .sgt v1345 c0_i32_1074
  let v1347 : BitVec 32 := Scalar.extui v1346
  let c0_i32_1075 : BitVec 32 := 0#32
  let v1348 : BitVec 1 := Scalar.cmpi .ne v1347 c0_i32_1075
  v1348

def k0_chk45 (v1345 : BitVec 32) (v1614 : IVec S16 32) : Prop :=
  (∀ (k0_h45 : k0_cond45 v1345 = 1#1), ∀ a x, ((![v1614] : Fin 1 → IVec S16 32) a x).toNat < S128.size a)
theorem k0_idx45_inb : ∀ (v1345 : BitVec 32) (v1614 : IVec S16 32) (k0_hw45 : k0_chk45 v1345 v1614), ∀ (k0_h45 : k0_cond45 v1345 = 1#1), ∀ a x, ((![v1614] : Fin 1 → IVec S16 32) a x).toNat < S128.size a := fun v1345 v1614 k0_hw45 k0_h45 => k0_hw45 k0_h45
def k0_off54 (i : grid0.Coords) : Fin 3 → Nat :=
  let c2_i32_1242 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c192_i32_1240 : BitVec 32 := 192#32
  let v1607 : BitVec 32 := Scalar.addi v2 c192_i32_1240
  let c8_i32_1241 : BitVec 32 := 8#32
  let v1608 : BitVec 32 := Scalar.muli v1607 c8_i32_1241
  let c0_i32_1243_r44 : BitVec 32 := 0#32
  ![2, v1608.toNat, 0]
@[reducible] def k0_t46_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond46 (v1358 : BitVec 32) : BitVec 1 :=
  let c0_i32_1082 : BitVec 32 := 0#32
  let v1359 : BitVec 1 := Scalar.cmpi .sgt v1358 c0_i32_1082
  let v1360 : BitVec 32 := Scalar.extui v1359
  let c0_i32_1083 : BitVec 32 := 0#32
  let v1361 : BitVec 1 := Scalar.cmpi .ne v1360 c0_i32_1083
  v1361

def k0_chk46 (v1358 : BitVec 32) (v1614 : IVec S16 32) : Prop :=
  (∀ (k0_h46 : k0_cond46 v1358 = 1#1), ∀ a x, ((![v1614] : Fin 1 → IVec S16 32) a x).toNat < S128.size a)
theorem k0_idx46_inb : ∀ (v1358 : BitVec 32) (v1614 : IVec S16 32) (k0_hw46 : k0_chk46 v1358 v1614), ∀ (k0_h46 : k0_cond46 v1358 = 1#1), ∀ a x, ((![v1614] : Fin 1 → IVec S16 32) a x).toNat < S128.size a := fun v1358 v1614 k0_hw46 k0_h46 => k0_hw46 k0_h46
def k0_off55 (i : grid0.Coords) : Fin 3 → Nat :=
  let c2_i32_1241 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c208_i32_1239 : BitVec 32 := 208#32
  let v1607 : BitVec 32 := Scalar.addi v2 c208_i32_1239
  let c8_i32_1240 : BitVec 32 := 8#32
  let v1608 : BitVec 32 := Scalar.muli v1607 c8_i32_1240
  let c0_i32_1242_r45 : BitVec 32 := 0#32
  ![2, v1608.toNat, 0]
@[reducible] def k0_t47_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond47 (v1371 : BitVec 32) : BitVec 1 :=
  let c0_i32_1090 : BitVec 32 := 0#32
  let v1372 : BitVec 1 := Scalar.cmpi .sgt v1371 c0_i32_1090
  let v1373 : BitVec 32 := Scalar.extui v1372
  let c0_i32_1091 : BitVec 32 := 0#32
  let v1374 : BitVec 1 := Scalar.cmpi .ne v1373 c0_i32_1091
  v1374

def k0_chk47 (v1371 : BitVec 32) (v1614 : IVec S16 32) : Prop :=
  (∀ (k0_h47 : k0_cond47 v1371 = 1#1), ∀ a x, ((![v1614] : Fin 1 → IVec S16 32) a x).toNat < S128.size a)
theorem k0_idx47_inb : ∀ (v1371 : BitVec 32) (v1614 : IVec S16 32) (k0_hw47 : k0_chk47 v1371 v1614), ∀ (k0_h47 : k0_cond47 v1371 = 1#1), ∀ a x, ((![v1614] : Fin 1 → IVec S16 32) a x).toNat < S128.size a := fun v1371 v1614 k0_hw47 k0_h47 => k0_hw47 k0_h47
def k0_off56 (i : grid0.Coords) : Fin 3 → Nat :=
  let c2_i32_1242 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c224_i32_1240 : BitVec 32 := 224#32
  let v1607 : BitVec 32 := Scalar.addi v2 c224_i32_1240
  let c8_i32_1241 : BitVec 32 := 8#32
  let v1608 : BitVec 32 := Scalar.muli v1607 c8_i32_1241
  let c0_i32_1243_r46 : BitVec 32 := 0#32
  ![2, v1608.toNat, 0]
@[reducible] def k0_t48_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond48 (v1384 : BitVec 32) : BitVec 1 :=
  let c0_i32_1098 : BitVec 32 := 0#32
  let v1385 : BitVec 1 := Scalar.cmpi .sgt v1384 c0_i32_1098
  let v1386 : BitVec 32 := Scalar.extui v1385
  let c0_i32_1099 : BitVec 32 := 0#32
  let v1387 : BitVec 1 := Scalar.cmpi .ne v1386 c0_i32_1099
  v1387

def k0_chk48 (v1384 : BitVec 32) (v1614 : IVec S16 32) : Prop :=
  (∀ (k0_h48 : k0_cond48 v1384 = 1#1), ∀ a x, ((![v1614] : Fin 1 → IVec S16 32) a x).toNat < S128.size a)
theorem k0_idx48_inb : ∀ (v1384 : BitVec 32) (v1614 : IVec S16 32) (k0_hw48 : k0_chk48 v1384 v1614), ∀ (k0_h48 : k0_cond48 v1384 = 1#1), ∀ a x, ((![v1614] : Fin 1 → IVec S16 32) a x).toNat < S128.size a := fun v1384 v1614 k0_hw48 k0_h48 => k0_hw48 k0_h48
def k0_off57 (i : grid0.Coords) : Fin 3 → Nat :=
  let c2_i32_1241 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c240_i32_1239 : BitVec 32 := 240#32
  let v1607 : BitVec 32 := Scalar.addi v2 c240_i32_1239
  let c8_i32_1240 : BitVec 32 := 8#32
  let v1608 : BitVec 32 := Scalar.muli v1607 c8_i32_1240
  let c0_i32_1242_r47 : BitVec 32 := 0#32
  ![2, v1608.toNat, 0]
@[reducible] def k0_t49_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond49 (v1397 : BitVec 32) : BitVec 1 :=
  let c0_i32_1106 : BitVec 32 := 0#32
  let v1398 : BitVec 1 := Scalar.cmpi .sgt v1397 c0_i32_1106
  let v1399 : BitVec 32 := Scalar.extui v1398
  let c0_i32_1107 : BitVec 32 := 0#32
  let v1400 : BitVec 1 := Scalar.cmpi .ne v1399 c0_i32_1107
  v1400

def k0_chk49 (v1397 : BitVec 32) (v1614 : IVec S16 32) : Prop :=
  (∀ (k0_h49 : k0_cond49 v1397 = 1#1), ∀ a x, ((![v1614] : Fin 1 → IVec S16 32) a x).toNat < S128.size a)
theorem k0_idx49_inb : ∀ (v1397 : BitVec 32) (v1614 : IVec S16 32) (k0_hw49 : k0_chk49 v1397 v1614), ∀ (k0_h49 : k0_cond49 v1397 = 1#1), ∀ a x, ((![v1614] : Fin 1 → IVec S16 32) a x).toNat < S128.size a := fun v1397 v1614 k0_hw49 k0_h49 => k0_hw49 k0_h49
def k0_off58 (i : grid0.Coords) : Fin 3 → Nat :=
  let c3_i32_1242 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_1240 : BitVec 32 := 0#32
  let v1607 : BitVec 32 := Scalar.addi v2 c0_i32_1240
  let c8_i32_1241 : BitVec 32 := 8#32
  let v1608 : BitVec 32 := Scalar.muli v1607 c8_i32_1241
  let c0_i32_1243_r48 : BitVec 32 := 0#32
  ![3, v1608.toNat, 0]
@[reducible] def k0_t50_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond50 (v1410 : BitVec 32) : BitVec 1 :=
  let c0_i32_1114 : BitVec 32 := 0#32
  let v1411 : BitVec 1 := Scalar.cmpi .sgt v1410 c0_i32_1114
  let v1412 : BitVec 32 := Scalar.extui v1411
  let c0_i32_1115 : BitVec 32 := 0#32
  let v1413 : BitVec 1 := Scalar.cmpi .ne v1412 c0_i32_1115
  v1413

def k0_chk50 (v1410 : BitVec 32) (v1614 : IVec S16 32) : Prop :=
  (∀ (k0_h50 : k0_cond50 v1410 = 1#1), ∀ a x, ((![v1614] : Fin 1 → IVec S16 32) a x).toNat < S128.size a)
theorem k0_idx50_inb : ∀ (v1410 : BitVec 32) (v1614 : IVec S16 32) (k0_hw50 : k0_chk50 v1410 v1614), ∀ (k0_h50 : k0_cond50 v1410 = 1#1), ∀ a x, ((![v1614] : Fin 1 → IVec S16 32) a x).toNat < S128.size a := fun v1410 v1614 k0_hw50 k0_h50 => k0_hw50 k0_h50
def k0_off59 (i : grid0.Coords) : Fin 3 → Nat :=
  let c3_i32_1241 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c16_i32_1239 : BitVec 32 := 16#32
  let v1607 : BitVec 32 := Scalar.addi v2 c16_i32_1239
  let c8_i32_1240 : BitVec 32 := 8#32
  let v1608 : BitVec 32 := Scalar.muli v1607 c8_i32_1240
  let c0_i32_1242_r49 : BitVec 32 := 0#32
  ![3, v1608.toNat, 0]
@[reducible] def k0_t51_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond51 (v1423 : BitVec 32) : BitVec 1 :=
  let c0_i32_1122 : BitVec 32 := 0#32
  let v1424 : BitVec 1 := Scalar.cmpi .sgt v1423 c0_i32_1122
  let v1425 : BitVec 32 := Scalar.extui v1424
  let c0_i32_1123 : BitVec 32 := 0#32
  let v1426 : BitVec 1 := Scalar.cmpi .ne v1425 c0_i32_1123
  v1426

def k0_chk51 (v1423 : BitVec 32) (v1614 : IVec S16 32) : Prop :=
  (∀ (k0_h51 : k0_cond51 v1423 = 1#1), ∀ a x, ((![v1614] : Fin 1 → IVec S16 32) a x).toNat < S128.size a)
theorem k0_idx51_inb : ∀ (v1423 : BitVec 32) (v1614 : IVec S16 32) (k0_hw51 : k0_chk51 v1423 v1614), ∀ (k0_h51 : k0_cond51 v1423 = 1#1), ∀ a x, ((![v1614] : Fin 1 → IVec S16 32) a x).toNat < S128.size a := fun v1423 v1614 k0_hw51 k0_h51 => k0_hw51 k0_h51
def k0_off60 (i : grid0.Coords) : Fin 3 → Nat :=
  let c3_i32_1242 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c32_i32_1240 : BitVec 32 := 32#32
  let v1607 : BitVec 32 := Scalar.addi v2 c32_i32_1240
  let c8_i32_1241 : BitVec 32 := 8#32
  let v1608 : BitVec 32 := Scalar.muli v1607 c8_i32_1241
  let c0_i32_1243_r50 : BitVec 32 := 0#32
  ![3, v1608.toNat, 0]
@[reducible] def k0_t52_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond52 (v1436 : BitVec 32) : BitVec 1 :=
  let c0_i32_1130 : BitVec 32 := 0#32
  let v1437 : BitVec 1 := Scalar.cmpi .sgt v1436 c0_i32_1130
  let v1438 : BitVec 32 := Scalar.extui v1437
  let c0_i32_1131 : BitVec 32 := 0#32
  let v1439 : BitVec 1 := Scalar.cmpi .ne v1438 c0_i32_1131
  v1439

def k0_chk52 (v1436 : BitVec 32) (v1614 : IVec S16 32) : Prop :=
  (∀ (k0_h52 : k0_cond52 v1436 = 1#1), ∀ a x, ((![v1614] : Fin 1 → IVec S16 32) a x).toNat < S128.size a)
theorem k0_idx52_inb : ∀ (v1436 : BitVec 32) (v1614 : IVec S16 32) (k0_hw52 : k0_chk52 v1436 v1614), ∀ (k0_h52 : k0_cond52 v1436 = 1#1), ∀ a x, ((![v1614] : Fin 1 → IVec S16 32) a x).toNat < S128.size a := fun v1436 v1614 k0_hw52 k0_h52 => k0_hw52 k0_h52
def k0_off61 (i : grid0.Coords) : Fin 3 → Nat :=
  let c3_i32_1241 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c48_i32_1239 : BitVec 32 := 48#32
  let v1607 : BitVec 32 := Scalar.addi v2 c48_i32_1239
  let c8_i32_1240 : BitVec 32 := 8#32
  let v1608 : BitVec 32 := Scalar.muli v1607 c8_i32_1240
  let c0_i32_1242_r51 : BitVec 32 := 0#32
  ![3, v1608.toNat, 0]
@[reducible] def k0_t53_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond53 (v1449 : BitVec 32) : BitVec 1 :=
  let c0_i32_1138 : BitVec 32 := 0#32
  let v1450 : BitVec 1 := Scalar.cmpi .sgt v1449 c0_i32_1138
  let v1451 : BitVec 32 := Scalar.extui v1450
  let c0_i32_1139 : BitVec 32 := 0#32
  let v1452 : BitVec 1 := Scalar.cmpi .ne v1451 c0_i32_1139
  v1452

def k0_chk53 (v1449 : BitVec 32) (v1614 : IVec S16 32) : Prop :=
  (∀ (k0_h53 : k0_cond53 v1449 = 1#1), ∀ a x, ((![v1614] : Fin 1 → IVec S16 32) a x).toNat < S128.size a)
theorem k0_idx53_inb : ∀ (v1449 : BitVec 32) (v1614 : IVec S16 32) (k0_hw53 : k0_chk53 v1449 v1614), ∀ (k0_h53 : k0_cond53 v1449 = 1#1), ∀ a x, ((![v1614] : Fin 1 → IVec S16 32) a x).toNat < S128.size a := fun v1449 v1614 k0_hw53 k0_h53 => k0_hw53 k0_h53
def k0_off62 (i : grid0.Coords) : Fin 3 → Nat :=
  let c3_i32_1242 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c64_i32_1240 : BitVec 32 := 64#32
  let v1607 : BitVec 32 := Scalar.addi v2 c64_i32_1240
  let c8_i32_1241 : BitVec 32 := 8#32
  let v1608 : BitVec 32 := Scalar.muli v1607 c8_i32_1241
  let c0_i32_1243_r52 : BitVec 32 := 0#32
  ![3, v1608.toNat, 0]
@[reducible] def k0_t54_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond54 (v1462 : BitVec 32) : BitVec 1 :=
  let c0_i32_1146 : BitVec 32 := 0#32
  let v1463 : BitVec 1 := Scalar.cmpi .sgt v1462 c0_i32_1146
  let v1464 : BitVec 32 := Scalar.extui v1463
  let c0_i32_1147 : BitVec 32 := 0#32
  let v1465 : BitVec 1 := Scalar.cmpi .ne v1464 c0_i32_1147
  v1465

def k0_chk54 (v1462 : BitVec 32) (v1614 : IVec S16 32) : Prop :=
  (∀ (k0_h54 : k0_cond54 v1462 = 1#1), ∀ a x, ((![v1614] : Fin 1 → IVec S16 32) a x).toNat < S128.size a)
theorem k0_idx54_inb : ∀ (v1462 : BitVec 32) (v1614 : IVec S16 32) (k0_hw54 : k0_chk54 v1462 v1614), ∀ (k0_h54 : k0_cond54 v1462 = 1#1), ∀ a x, ((![v1614] : Fin 1 → IVec S16 32) a x).toNat < S128.size a := fun v1462 v1614 k0_hw54 k0_h54 => k0_hw54 k0_h54
def k0_off63 (i : grid0.Coords) : Fin 3 → Nat :=
  let c3_i32_1241 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c80_i32_1239 : BitVec 32 := 80#32
  let v1607 : BitVec 32 := Scalar.addi v2 c80_i32_1239
  let c8_i32_1240 : BitVec 32 := 8#32
  let v1608 : BitVec 32 := Scalar.muli v1607 c8_i32_1240
  let c0_i32_1242_r53 : BitVec 32 := 0#32
  ![3, v1608.toNat, 0]
@[reducible] def k0_t55_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond55 (v1475 : BitVec 32) : BitVec 1 :=
  let c0_i32_1154 : BitVec 32 := 0#32
  let v1476 : BitVec 1 := Scalar.cmpi .sgt v1475 c0_i32_1154
  let v1477 : BitVec 32 := Scalar.extui v1476
  let c0_i32_1155 : BitVec 32 := 0#32
  let v1478 : BitVec 1 := Scalar.cmpi .ne v1477 c0_i32_1155
  v1478

def k0_chk55 (v1475 : BitVec 32) (v1614 : IVec S16 32) : Prop :=
  (∀ (k0_h55 : k0_cond55 v1475 = 1#1), ∀ a x, ((![v1614] : Fin 1 → IVec S16 32) a x).toNat < S128.size a)
theorem k0_idx55_inb : ∀ (v1475 : BitVec 32) (v1614 : IVec S16 32) (k0_hw55 : k0_chk55 v1475 v1614), ∀ (k0_h55 : k0_cond55 v1475 = 1#1), ∀ a x, ((![v1614] : Fin 1 → IVec S16 32) a x).toNat < S128.size a := fun v1475 v1614 k0_hw55 k0_h55 => k0_hw55 k0_h55
def k0_off64 (i : grid0.Coords) : Fin 3 → Nat :=
  let c3_i32_1242 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c96_i32_1240 : BitVec 32 := 96#32
  let v1607 : BitVec 32 := Scalar.addi v2 c96_i32_1240
  let c8_i32_1241 : BitVec 32 := 8#32
  let v1608 : BitVec 32 := Scalar.muli v1607 c8_i32_1241
  let c0_i32_1243_r54 : BitVec 32 := 0#32
  ![3, v1608.toNat, 0]
@[reducible] def k0_t56_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond56 (v1488 : BitVec 32) : BitVec 1 :=
  let c0_i32_1162 : BitVec 32 := 0#32
  let v1489 : BitVec 1 := Scalar.cmpi .sgt v1488 c0_i32_1162
  let v1490 : BitVec 32 := Scalar.extui v1489
  let c0_i32_1163 : BitVec 32 := 0#32
  let v1491 : BitVec 1 := Scalar.cmpi .ne v1490 c0_i32_1163
  v1491

def k0_chk56 (v1488 : BitVec 32) (v1614 : IVec S16 32) : Prop :=
  (∀ (k0_h56 : k0_cond56 v1488 = 1#1), ∀ a x, ((![v1614] : Fin 1 → IVec S16 32) a x).toNat < S128.size a)
theorem k0_idx56_inb : ∀ (v1488 : BitVec 32) (v1614 : IVec S16 32) (k0_hw56 : k0_chk56 v1488 v1614), ∀ (k0_h56 : k0_cond56 v1488 = 1#1), ∀ a x, ((![v1614] : Fin 1 → IVec S16 32) a x).toNat < S128.size a := fun v1488 v1614 k0_hw56 k0_h56 => k0_hw56 k0_h56
def k0_off65 (i : grid0.Coords) : Fin 3 → Nat :=
  let c3_i32_1241 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c112_i32_1239 : BitVec 32 := 112#32
  let v1607 : BitVec 32 := Scalar.addi v2 c112_i32_1239
  let c8_i32_1240 : BitVec 32 := 8#32
  let v1608 : BitVec 32 := Scalar.muli v1607 c8_i32_1240
  let c0_i32_1242_r55 : BitVec 32 := 0#32
  ![3, v1608.toNat, 0]
@[reducible] def k0_t57_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond57 (v1501 : BitVec 32) : BitVec 1 :=
  let c0_i32_1170 : BitVec 32 := 0#32
  let v1502 : BitVec 1 := Scalar.cmpi .sgt v1501 c0_i32_1170
  let v1503 : BitVec 32 := Scalar.extui v1502
  let c0_i32_1171 : BitVec 32 := 0#32
  let v1504 : BitVec 1 := Scalar.cmpi .ne v1503 c0_i32_1171
  v1504

def k0_chk57 (v1501 : BitVec 32) (v1614 : IVec S16 32) : Prop :=
  (∀ (k0_h57 : k0_cond57 v1501 = 1#1), ∀ a x, ((![v1614] : Fin 1 → IVec S16 32) a x).toNat < S128.size a)
theorem k0_idx57_inb : ∀ (v1501 : BitVec 32) (v1614 : IVec S16 32) (k0_hw57 : k0_chk57 v1501 v1614), ∀ (k0_h57 : k0_cond57 v1501 = 1#1), ∀ a x, ((![v1614] : Fin 1 → IVec S16 32) a x).toNat < S128.size a := fun v1501 v1614 k0_hw57 k0_h57 => k0_hw57 k0_h57
def k0_off66 (i : grid0.Coords) : Fin 3 → Nat :=
  let c3_i32_1242 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_1240 : BitVec 32 := 128#32
  let v1607 : BitVec 32 := Scalar.addi v2 c128_i32_1240
  let c8_i32_1241 : BitVec 32 := 8#32
  let v1608 : BitVec 32 := Scalar.muli v1607 c8_i32_1241
  let c0_i32_1243_r56 : BitVec 32 := 0#32
  ![3, v1608.toNat, 0]
@[reducible] def k0_t58_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond58 (v1514 : BitVec 32) : BitVec 1 :=
  let c0_i32_1178 : BitVec 32 := 0#32
  let v1515 : BitVec 1 := Scalar.cmpi .sgt v1514 c0_i32_1178
  let v1516 : BitVec 32 := Scalar.extui v1515
  let c0_i32_1179 : BitVec 32 := 0#32
  let v1517 : BitVec 1 := Scalar.cmpi .ne v1516 c0_i32_1179
  v1517

def k0_chk58 (v1514 : BitVec 32) (v1614 : IVec S16 32) : Prop :=
  (∀ (k0_h58 : k0_cond58 v1514 = 1#1), ∀ a x, ((![v1614] : Fin 1 → IVec S16 32) a x).toNat < S128.size a)
theorem k0_idx58_inb : ∀ (v1514 : BitVec 32) (v1614 : IVec S16 32) (k0_hw58 : k0_chk58 v1514 v1614), ∀ (k0_h58 : k0_cond58 v1514 = 1#1), ∀ a x, ((![v1614] : Fin 1 → IVec S16 32) a x).toNat < S128.size a := fun v1514 v1614 k0_hw58 k0_h58 => k0_hw58 k0_h58
def k0_off67 (i : grid0.Coords) : Fin 3 → Nat :=
  let c3_i32_1241 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c144_i32_1239 : BitVec 32 := 144#32
  let v1607 : BitVec 32 := Scalar.addi v2 c144_i32_1239
  let c8_i32_1240 : BitVec 32 := 8#32
  let v1608 : BitVec 32 := Scalar.muli v1607 c8_i32_1240
  let c0_i32_1242_r57 : BitVec 32 := 0#32
  ![3, v1608.toNat, 0]
@[reducible] def k0_t59_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond59 (v1527 : BitVec 32) : BitVec 1 :=
  let c0_i32_1186 : BitVec 32 := 0#32
  let v1528 : BitVec 1 := Scalar.cmpi .sgt v1527 c0_i32_1186
  let v1529 : BitVec 32 := Scalar.extui v1528
  let c0_i32_1187 : BitVec 32 := 0#32
  let v1530 : BitVec 1 := Scalar.cmpi .ne v1529 c0_i32_1187
  v1530

def k0_chk59 (v1527 : BitVec 32) (v1614 : IVec S16 32) : Prop :=
  (∀ (k0_h59 : k0_cond59 v1527 = 1#1), ∀ a x, ((![v1614] : Fin 1 → IVec S16 32) a x).toNat < S128.size a)
theorem k0_idx59_inb : ∀ (v1527 : BitVec 32) (v1614 : IVec S16 32) (k0_hw59 : k0_chk59 v1527 v1614), ∀ (k0_h59 : k0_cond59 v1527 = 1#1), ∀ a x, ((![v1614] : Fin 1 → IVec S16 32) a x).toNat < S128.size a := fun v1527 v1614 k0_hw59 k0_h59 => k0_hw59 k0_h59
def k0_off68 (i : grid0.Coords) : Fin 3 → Nat :=
  let c3_i32_1242 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c160_i32_1240 : BitVec 32 := 160#32
  let v1607 : BitVec 32 := Scalar.addi v2 c160_i32_1240
  let c8_i32_1241 : BitVec 32 := 8#32
  let v1608 : BitVec 32 := Scalar.muli v1607 c8_i32_1241
  let c0_i32_1243_r58 : BitVec 32 := 0#32
  ![3, v1608.toNat, 0]
@[reducible] def k0_t60_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond60 (v1540 : BitVec 32) : BitVec 1 :=
  let c0_i32_1194 : BitVec 32 := 0#32
  let v1541 : BitVec 1 := Scalar.cmpi .sgt v1540 c0_i32_1194
  let v1542 : BitVec 32 := Scalar.extui v1541
  let c0_i32_1195 : BitVec 32 := 0#32
  let v1543 : BitVec 1 := Scalar.cmpi .ne v1542 c0_i32_1195
  v1543

def k0_chk60 (v1540 : BitVec 32) (v1614 : IVec S16 32) : Prop :=
  (∀ (k0_h60 : k0_cond60 v1540 = 1#1), ∀ a x, ((![v1614] : Fin 1 → IVec S16 32) a x).toNat < S128.size a)
theorem k0_idx60_inb : ∀ (v1540 : BitVec 32) (v1614 : IVec S16 32) (k0_hw60 : k0_chk60 v1540 v1614), ∀ (k0_h60 : k0_cond60 v1540 = 1#1), ∀ a x, ((![v1614] : Fin 1 → IVec S16 32) a x).toNat < S128.size a := fun v1540 v1614 k0_hw60 k0_h60 => k0_hw60 k0_h60
def k0_off69 (i : grid0.Coords) : Fin 3 → Nat :=
  let c3_i32_1241 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c176_i32_1239 : BitVec 32 := 176#32
  let v1607 : BitVec 32 := Scalar.addi v2 c176_i32_1239
  let c8_i32_1240 : BitVec 32 := 8#32
  let v1608 : BitVec 32 := Scalar.muli v1607 c8_i32_1240
  let c0_i32_1242_r59 : BitVec 32 := 0#32
  ![3, v1608.toNat, 0]
@[reducible] def k0_t61_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond61 (v1553 : BitVec 32) : BitVec 1 :=
  let c0_i32_1202 : BitVec 32 := 0#32
  let v1554 : BitVec 1 := Scalar.cmpi .sgt v1553 c0_i32_1202
  let v1555 : BitVec 32 := Scalar.extui v1554
  let c0_i32_1203 : BitVec 32 := 0#32
  let v1556 : BitVec 1 := Scalar.cmpi .ne v1555 c0_i32_1203
  v1556

def k0_chk61 (v1553 : BitVec 32) (v1614 : IVec S16 32) : Prop :=
  (∀ (k0_h61 : k0_cond61 v1553 = 1#1), ∀ a x, ((![v1614] : Fin 1 → IVec S16 32) a x).toNat < S128.size a)
theorem k0_idx61_inb : ∀ (v1553 : BitVec 32) (v1614 : IVec S16 32) (k0_hw61 : k0_chk61 v1553 v1614), ∀ (k0_h61 : k0_cond61 v1553 = 1#1), ∀ a x, ((![v1614] : Fin 1 → IVec S16 32) a x).toNat < S128.size a := fun v1553 v1614 k0_hw61 k0_h61 => k0_hw61 k0_h61
def k0_off70 (i : grid0.Coords) : Fin 3 → Nat :=
  let c3_i32_1242 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c192_i32_1240 : BitVec 32 := 192#32
  let v1607 : BitVec 32 := Scalar.addi v2 c192_i32_1240
  let c8_i32_1241 : BitVec 32 := 8#32
  let v1608 : BitVec 32 := Scalar.muli v1607 c8_i32_1241
  let c0_i32_1243_r60 : BitVec 32 := 0#32
  ![3, v1608.toNat, 0]
@[reducible] def k0_t62_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond62 (v1566 : BitVec 32) : BitVec 1 :=
  let c0_i32_1210 : BitVec 32 := 0#32
  let v1567 : BitVec 1 := Scalar.cmpi .sgt v1566 c0_i32_1210
  let v1568 : BitVec 32 := Scalar.extui v1567
  let c0_i32_1211 : BitVec 32 := 0#32
  let v1569 : BitVec 1 := Scalar.cmpi .ne v1568 c0_i32_1211
  v1569

def k0_chk62 (v1566 : BitVec 32) (v1614 : IVec S16 32) : Prop :=
  (∀ (k0_h62 : k0_cond62 v1566 = 1#1), ∀ a x, ((![v1614] : Fin 1 → IVec S16 32) a x).toNat < S128.size a)
theorem k0_idx62_inb : ∀ (v1566 : BitVec 32) (v1614 : IVec S16 32) (k0_hw62 : k0_chk62 v1566 v1614), ∀ (k0_h62 : k0_cond62 v1566 = 1#1), ∀ a x, ((![v1614] : Fin 1 → IVec S16 32) a x).toNat < S128.size a := fun v1566 v1614 k0_hw62 k0_h62 => k0_hw62 k0_h62
def k0_off71 (i : grid0.Coords) : Fin 3 → Nat :=
  let c3_i32_1241 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c208_i32_1239 : BitVec 32 := 208#32
  let v1607 : BitVec 32 := Scalar.addi v2 c208_i32_1239
  let c8_i32_1240 : BitVec 32 := 8#32
  let v1608 : BitVec 32 := Scalar.muli v1607 c8_i32_1240
  let c0_i32_1242_r61 : BitVec 32 := 0#32
  ![3, v1608.toNat, 0]
@[reducible] def k0_t63_loop : Scf.Loop 32 :=
  let c0_i32_1232 : BitVec 32 := 0#32
  let c8_i32_1233 : BitVec 32 := 8#32
  let v1604 : BitVec 32 := Scalar.addi c0_i32_1232 c8_i32_1233
  let c1_i32_1234 : BitVec 32 := 1#32
  ⟨c0_i32_1232, v1604, c1_i32_1234⟩
def k0_cond63 (v1579 : BitVec 32) : BitVec 1 :=
  let c0_i32_1218 : BitVec 32 := 0#32
  let v1580 : BitVec 1 := Scalar.cmpi .sgt v1579 c0_i32_1218
  let v1581 : BitVec 32 := Scalar.extui v1580
  let c0_i32_1219 : BitVec 32 := 0#32
  let v1582 : BitVec 1 := Scalar.cmpi .ne v1581 c0_i32_1219
  v1582

def k0_chk63 (v1579 : BitVec 32) (v1614 : IVec S16 32) : Prop :=
  (∀ (k0_h63 : k0_cond63 v1579 = 1#1), ∀ a x, ((![v1614] : Fin 1 → IVec S16 32) a x).toNat < S128.size a)
theorem k0_idx63_inb : ∀ (v1579 : BitVec 32) (v1614 : IVec S16 32) (k0_hw63 : k0_chk63 v1579 v1614), ∀ (k0_h63 : k0_cond63 v1579 = 1#1), ∀ a x, ((![v1614] : Fin 1 → IVec S16 32) a x).toNat < S128.size a := fun v1579 v1614 k0_hw63 k0_h63 => k0_hw63 k0_h63
def k0_off72 (i : grid0.Coords) : Fin 3 → Nat :=
  let c3_i32_1242 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c224_i32_1240 : BitVec 32 := 224#32
  let v1607 : BitVec 32 := Scalar.addi v2 c224_i32_1240
  let c8_i32_1241 : BitVec 32 := 8#32
  let v1608 : BitVec 32 := Scalar.muli v1607 c8_i32_1241
  let c0_i32_1243_r62 : BitVec 32 := 0#32
  ![3, v1608.toNat, 0]
@[reducible] def k0_t64_loop : Scf.Loop 32 :=
  let c0_i32_1231 : BitVec 32 := 0#32
  let c8_i32_1232 : BitVec 32 := 8#32
  let v1604 : BitVec 32 := Scalar.addi c0_i32_1231 c8_i32_1232
  let c1_i32_1233 : BitVec 32 := 1#32
  ⟨c0_i32_1231, v1604, c1_i32_1233⟩
def k0_cond64 (v1592 : BitVec 32) : BitVec 1 :=
  let c0_i32_1226 : BitVec 32 := 0#32
  let v1593 : BitVec 1 := Scalar.cmpi .sgt v1592 c0_i32_1226
  let v1594 : BitVec 32 := Scalar.extui v1593
  let c0_i32_1227 : BitVec 32 := 0#32
  let v1595 : BitVec 1 := Scalar.cmpi .ne v1594 c0_i32_1227
  v1595

def k0_chk64 (v1592 : BitVec 32) (v1614 : IVec S16 32) : Prop :=
  (∀ (k0_h64 : k0_cond64 v1592 = 1#1), ∀ a x, ((![v1614] : Fin 1 → IVec S16 32) a x).toNat < S128.size a)
theorem k0_idx64_inb : ∀ (v1592 : BitVec 32) (v1614 : IVec S16 32) (k0_hw64 : k0_chk64 v1592 v1614), ∀ (k0_h64 : k0_cond64 v1592 = 1#1), ∀ a x, ((![v1614] : Fin 1 → IVec S16 32) a x).toNat < S128.size a := fun v1592 v1614 k0_hw64 k0_h64 => k0_hw64 k0_h64
def k0_off73 (i : grid0.Coords) : Fin 3 → Nat :=
  let c3_i32_1241 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c240_i32_1239 : BitVec 32 := 240#32
  let v1607 : BitVec 32 := Scalar.addi v2 c240_i32_1239
  let c8_i32_1240 : BitVec 32 := 8#32
  let v1608 : BitVec 32 := Scalar.muli v1607 c8_i32_1240
  let c0_i32_1242_r63 : BitVec 32 := 0#32
  ![3, v1608.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x8192 : Shape := ⟨2, ![4, 8192]⟩
abbrev S8194x1024 : Shape := ⟨2, ![8194, 1024]⟩
abbrev S8192 : Shape := ⟨1, ![8192]⟩
abbrev S_ : Shape := ⟨0, ![]⟩
abbrev S1x8192 : Shape := ⟨2, ![1, 8192]⟩
abbrev S4x8192x1 : Shape := ⟨3, ![4, 8192, 1]⟩
abbrev S1 : Shape := ⟨1, ![1]⟩
abbrev S1x1x1 : Shape := ⟨3, ![1, 1, 1]⟩
abbrev S4x8192x1024 : Shape := ⟨3, ![4, 8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8194x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S4x8192, .i32⟩
  | .hbm, ⟨8, _⟩ => ⟨S4x8192, .i1⟩
  | .hbm, ⟨9, _⟩ => ⟨S1x8192, .i32⟩
  | .hbm, ⟨10, _⟩ => ⟨S4x8192, .i32⟩
  | .hbm, ⟨11, _⟩ => ⟨S4x8192, .i32⟩
  | .hbm, ⟨12, _⟩ => ⟨S_, .i32⟩
  | .hbm, ⟨13, _⟩ => ⟨S4x8192, .i32⟩
  | .hbm, ⟨14, _⟩ => ⟨S4x8192, .i1⟩
  | .hbm, ⟨15, _⟩ => ⟨S_, .i32⟩
  | .hbm, ⟨16, _⟩ => ⟨S4x8192, .i32⟩
  | .hbm, ⟨17, _⟩ => ⟨S4x8192, .i32⟩
  | .hbm, ⟨18, _⟩ => ⟨S4x8192, .i32⟩
  | .hbm, ⟨19, _⟩ => ⟨S4x8192x1, .i32⟩
  | .hbm, ⟨20, _⟩ => ⟨S1, .i32⟩
  | .hbm, ⟨21, _⟩ => ⟨S_, .i32⟩
  | .hbm, ⟨22, _⟩ => ⟨S4x8192x1, .i32⟩
  | .hbm, ⟨23, _⟩ => ⟨S4x8192x1, .i1⟩
  | .hbm, ⟨24, _⟩ => ⟨S1x1x1, .i32⟩
  | .hbm, ⟨25, _⟩ => ⟨S4x8192x1, .i32⟩
  | .hbm, ⟨26, _⟩ => ⟨S4x8192x1, .i1⟩
  | .hbm, ⟨27, _⟩ => ⟨S4x8192x1, .i1⟩
  | .hbm, ⟨28, _⟩ => ⟨S_, .i1⟩
  | .hbm, ⟨29, _⟩ => ⟨S4x8192, .i1⟩
  | .hbm, ⟨30, _⟩ => ⟨S4x8192x1024, .f32⟩
  | .hbm, ⟨31, _⟩ => ⟨S4x8192x1024, .i1⟩
  | .hbm, ⟨32, _⟩ => ⟨S_, .f32⟩
  | .hbm, ⟨33, _⟩ => ⟨S4x8192x1024, .f32⟩
  | .hbm, ⟨34, _⟩ => ⟨S4x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_call1_cst : Ref sig .tc := ⟨.hbm, 32, rfl⟩
abbrev main_call1_v15 : Ref sig .tc := ⟨.hbm, 33, rfl⟩
abbrev main_v8 : Ref sig .tc := ⟨.hbm, 34, rfl⟩

abbrev nD : Nat := 1
abbrev τ : Topo := Topo.v7x

variable {F : FTy → Type} [FloatOps F]
-- ==== Proof.Setup.lean ====
/-
  The kernel as the launch theorem sees it: the resource algebra, the arrays as the tiles address them, and the
  windows of those arrays the body's copies move.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The program's labels, its kernel and its definitions. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
/-- The variants of the loops: none are needed. -/
abbrev 𝒱₀ : Variants := Variants.none
abbrev 𝒱 : Variants := 𝒱₀.lift
abbrev v₀ : 𝒱.V := Sum.inl none

/-- The launch's four semaphores are distinct and unscoped where they must be. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' and the counters'. -/
abbrev UH : Type := URounds (GSem nD τ sig) ℕ
abbrev UU : Type := UH × Counters

/-- The resources. -/
abbrev MM (F : FTy → Type) := MT nD τ sig (HIx 1) (Elt F) ℕ UU ℕ

/-- The handshakes' part of the resources. -/
abbrev EH : Emb UH (MM F) := embL

/-! ## The arrays -/

/-- The token array, the table cut into rows of 128 lanes, and the output so cut, in the device's memory. -/
abbrev iLoc (d : Dev nD) : Loc nD τ sig := (SparseCore.T d).loc main_arg0
/-- The table. -/
abbrev aLoc (d : Dev nD) : Loc nD τ sig := (SparseCore.T d).loc main_arg1
/-- The table cut into lines. -/
abbrev wLoc (d : Dev nD) : Loc nD τ sig := (SparseCore.T d).loc main_v0
/-- The output in lines. -/
abbrev oLoc (d : Dev nD) : Loc nD τ sig := (SparseCore.T d).loc main_v1
/-- The result. -/
abbrev rLoc (d : Dev nD) : Loc nD τ sig := (SparseCore.T d).loc main_v2

/-- The whole arrays as a tile names them. -/
abbrev iV : Memref sig .scVector .hbm S4x8192 .i32 := Memref.whole main_arg0_scv
abbrev wV : Memref sig .scVector .hbm S65552x128 .f32 := Memref.whole main_v0_scv
abbrev oV : Memref sig .scVector .hbm S4x65536x128 .f32 := Memref.whole main_v1_scv
/-- The tile's scratch: tokens, list, two buffers, gathered lines. -/
abbrev tV : Memref sig .scVector .vmem S4x256 .i32 := Memref.whole cc0_scratch0
abbrev lV : Memref sig .scVector .vmem S128 .i32 := Memref.whole cc0_scratch1
abbrev bV : Memref sig .scVector .vmem S2x256x128 .f32 := Memref.whole cc0_scratch2
abbrev gV : Memref sig .scVector .vmem S128x128 .f32 := Memref.whole cc0_scratch3

/-- The tile of grid point `L`: SparseCore `L 0`, vector subcore `L 1`. -/
abbrev cV (L : grid0.Coords) : Fin τ.nSC := (L 0).castLE hcore0
/-- The tile's number in its SparseCore. -/
abbrev jV (L : grid0.Coords) : Fin τ.nSub := (L 1).castLE hsub0
/-- The tile's thread. -/
abbrev thr (d : Dev nD) (L : grid0.Coords) : Thread nD τ := V d (cV L) (jV L)

/-! ## The windows the copies move -/

/-- 256 tokens of one batch row. -/
abbrev iW (off : Fin 2 → ℕ) (h : ∀ a, off a + S1x256.size a ≤ S4x8192.size a) : Memref sig .scVector .hbm S256 .i32 :=
  ((iV).slice (Rect.unit (s := S4x8192) off S1x256.size h) (fun _ => rfl)).squeeze S256 squeezes_S1x256_S256
/-- Row `b` of the token scratch. -/
abbrev tW (off : Fin 2 → ℕ) (h : ∀ a, off a + S1x256.size a ≤ S4x256.size a) : Memref sig .scVector .vmem S256 .i32 :=
  ((tV).slice (Rect.unit (s := S4x256) off S1x256.size h) (fun _ => rfl)).squeeze S256 squeezes_S1x256_S256
/-- A chunk of 256 table lines. -/
abbrev wW (off : Fin 2 → ℕ) (h : ∀ a, off a + S256x128.size a ≤ S65552x128.size a) : Memref sig .scVector .hbm S256x128 .f32 :=
  (wV).slice (Rect.unit (s := S65552x128) off S256x128.size h) (fun _ => rfl)
/-- One of the two slots of the staging buffer. -/
abbrev bW (off : Fin 3 → ℕ) (h : ∀ a, off a + S1x256x128.size a ≤ S2x256x128.size a) : Memref sig .scVector .vmem S256x128 .f32 :=
  ((bV).slice (Rect.unit (s := S2x256x128) off S1x256x128.size h) (fun _ => rfl)).squeeze S256x128 squeezes_S1x256x128_S256x128
/-- A chunk of 256 output lines of one batch row. -/
abbrev oW (off : Fin 3 → ℕ) (h : ∀ a, off a + S1x256x128.size a ≤ S4x65536x128.size a) : Memref sig .scVector .hbm S256x128 .f32 :=
  ((oV).slice (Rect.unit (s := S4x65536x128) off S1x256x128.size h) (fun _ => rfl)).squeeze S256x128 squeezes_S1x256x128_S256x128

end Cert.Proof.K

end
-- ==== Proof.Values.lean ====
/-
  What the kernel's arrays hold, as functions of the tokens and the table, and which elements its windows are.
-/
module

public import proofs.«01_k».proof.Proof.Setup
public import Idealize.ShloMosaic.Lib.ValueLayout

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## What the arrays hold -/

/-- The table line that holds eighth `r % 8` of row `p`. -/
def lineOf (p r : ℕ) (hp : p < 8194) : Fin 65552 := ⟨8 * p + r % 8, by omega⟩

/-- The table row position `s` takes under token `t`: row 1 at a pad token, row `s + 2` otherwise. -/
def posOf (t : BitVec 32) (s : ℕ) : ℕ := if t = 1#32 then 1 else s + 2

/-- The row taken lies in the table. -/
theorem posOf_lt (t : BitVec 32) (s : ℕ) (h : s < 8192) : posOf t s < 8194 := by unfold posOf; split <;> omega

/-- The output before the pads are put in: line `r` of every batch row is table line `r + 16`. -/
def linear (w : S65552x128.Idx → Elt F .f32) : S4x65536x128.Idx → Elt F .f32 :=
  fun y => w (ix2 (n0 := 65552) (n1 := 128) ⟨(y 1).val + 16, by have : (y 1).val < 65536 := (y 1).isLt; omega⟩ (y 2))

/-- The output: line `r` of batch row `b` is eighth `r % 8` of the table row that position `r / 8` takes. -/
def final (x : S4x8192.Idx → BitVec 32) (w : S65552x128.Idx → Elt F .f32) : S4x65536x128.Idx → Elt F .f32 :=
  fun y => w (ix2 (n0 := 65552) (n1 := 128)
    (lineOf (posOf (x (ix2 (n0 := 4) (n1 := 8192) (y 0) ⟨(y 1).val / 8, by have : (y 1).val < 65536 := (y 1).isLt; omega⟩)) ((y 1).val / 8)) (y 1).val
      (posOf_lt _ _ (by have : (y 1).val < 65536 := (y 1).isLt; omega))) (y 2))

/-- The patch that covers an output element: 16 positions of one batch row of a tile's 256. -/
def pieceOf (y : S4x65536x128.Idx) : ℕ := 16 * (y 0).val + (y 1).val % 2048 / 128

/-- The output after the first `n` patches. -/
def mixAt (n : ℕ) (x : S4x8192.Idx → BitVec 32) (w : S65552x128.Idx → Elt F .f32) : S4x65536x128.Idx → Elt F .f32 :=
  fun y => if pieceOf y < n then final x w y else linear w y

/-- There are 64 patches. -/
theorem pieceOf_lt (y : S4x65536x128.Idx) : pieceOf y < 64 := by
  have h0 : (y 0).val < 4 := (y 0).isLt
  unfold pieceOf; omega

/-- Before any patch the output is the linear copy. -/
theorem mixAt_zero (x : S4x8192.Idx → BitVec 32) (w : S65552x128.Idx → Elt F .f32) : mixAt 0 x w = linear w := by
  funext y; exact if_neg (Nat.not_lt_zero _)

/-- After all of them it is final. -/
theorem mixAt_last (x : S4x8192.Idx → BitVec 32) (w : S65552x128.Idx → Elt F .f32) : mixAt 64 x w = final x w := by
  funext y; exact if_pos (pieceOf_lt y)

/-- A patch changes nothing outside its piece. -/
theorem mixAt_succ_of_ne (n : ℕ) (x : S4x8192.Idx → BitVec 32) (w : S65552x128.Idx → Elt F .f32) (y : S4x65536x128.Idx)
    (h : pieceOf y ≠ n) : mixAt (n + 1) x w y = mixAt n x w y := by
  unfold mixAt
  by_cases h1 : pieceOf y < n
  · rw [if_pos h1, if_pos (by omega)]
  · rw [if_neg h1, if_neg (by omega)]

/-- After its patch a piece is final. -/
theorem mixAt_succ_of_eq (n : ℕ) (x : S4x8192.Idx → BitVec 32) (w : S65552x128.Idx → Elt F .f32) (y : S4x65536x128.Idx)
    (h : pieceOf y = n) : mixAt (n + 1) x w y = final x w y := if_pos (by omega)

/-- Where no token is a pad the linear copy is already right. -/
theorem final_eq_linear (x : S4x8192.Idx → BitVec 32) (w : S65552x128.Idx → Elt F .f32) (y : S4x65536x128.Idx)
    (h : x (ix2 (n0 := 4) (n1 := 8192) (y 0) ⟨(y 1).val / 8, by have : (y 1).val < 65536 := (y 1).isLt; omega⟩) ≠ 1#32) : final x w y = linear w y := by
  unfold final linear posOf
  congr 2
  apply Fin.ext
  simp only [lineOf, if_neg h]
  omega

/-! ## Which elements the windows are -/

/-- The first position of the tile at grid point `L`, in lines of 128 lanes. -/
def base (L : grid0.Coords) : ℕ := 4096 * (L 1).val + 2048 * (L 0).val

/-- A tile's lines lie in the output. -/
theorem base_le (L : grid0.Coords) : base L + 2048 ≤ 65536 := by
  have h0 : (L 0).val < 2 := (L 0).isLt
  have h1 : (L 1).val < 16 := (L 1).isLt
  unfold base; omega

/-- The output elements of the tile at grid point `L`: its 2048 lines in each batch row. -/
def tileSet (L : grid0.Coords) : Finset S4x65536x128.Idx :=
  Finset.univ.filter fun y => base L ≤ (y 1).val ∧ (y 1).val < base L + 2048

/-- Which elements a tile's part has. -/
theorem mem_tileSet {L : grid0.Coords} {y : S4x65536x128.Idx} : y ∈ tileSet L ↔ base L ≤ (y 1).val ∧ (y 1).val < base L + 2048 := by
  simp [tileSet]

/-- A window of `n` whole lines of one batch row. -/
theorem mem_lines {n b r : ℕ} {h : ∀ a, (![b, r, 0] : Fin 3 → ℕ) a + (![1, n, 128] : Fin 3 → ℕ) a ≤ S4x65536x128.size a} {y : S4x65536x128.Idx} :
    y ∈ (Rect.unit (s := S4x65536x128) ![b, r, 0] ![1, n, 128] h).set ↔ (y 0).val = b ∧ r ≤ (y 1).val ∧ (y 1).val < r + n := by
  rw [Rect.mem_set_unit]
  constructor
  · intro H
    have h0 := H 0
    have h1 := H 1
    simp only [Matrix.cons_val_zero, Matrix.cons_val_one] at h0 h1
    omega
  · rintro ⟨h0, h1, h2⟩ a
    have h3 : (y 2).val < 128 := (y 2).isLt
    match a with
    | 0 => simp; omega
    | 1 => simp; omega
    | 2 => simp; omega

/-- The elements of a window of 256 lines. -/
theorem set_oW {b r : ℕ} (off : Fin 3 → ℕ) (h : ∀ a, off a + S1x256x128.size a ≤ S4x65536x128.size a) (e : off = ![b, r, 0]) (y : S4x65536x128.Idx) :
    y ∈ (oW off h).view.set ↔ (y 0).val = b ∧ r ≤ (y 1).val ∧ (y 1).val < r + 256 := by
  subst e
  rw [Memref.set_view_squeeze]
  show y ∈ ((View.whole main_v1_scv).slice (Rect.unit (s := S4x65536x128) ![b, r, 0] S1x256x128.size h)).set ↔ _
  rw [View.set_slice_whole]
  exact mem_lines

/-- A window of 128 output lines of one batch row. -/
abbrev pW (off : Fin 3 → ℕ) (h : ∀ a, off a + S1x128x128.size a ≤ S4x65536x128.size a) : Memref sig .scVector .hbm S128x128 .f32 :=
  ((oV).slice (Rect.unit (s := S4x65536x128) off S1x128x128.size h) (fun _ => rfl)).squeeze S128x128 squeezes_S1x128x128_S128x128

/-- The elements of a window of 128 lines. -/
theorem set_pW {b r : ℕ} (off : Fin 3 → ℕ) (h : ∀ a, off a + S1x128x128.size a ≤ S4x65536x128.size a) (e : off = ![b, r, 0]) (y : S4x65536x128.Idx) :
    y ∈ (pW off h).view.set ↔ (y 0).val = b ∧ r ≤ (y 1).val ∧ (y 1).val < r + 128 := by
  subst e
  rw [Memref.set_view_squeeze]
  show y ∈ ((View.whole main_v1_scv).slice (Rect.unit (s := S4x65536x128) ![b, r, 0] S1x128x128.size h)).set ↔ _
  rw [View.set_slice_whole]
  exact mem_lines

/-- What a window of the output reads, element by element. -/
theorem read_oW (off : Fin 3 → ℕ) (h : ∀ a, off a + S1x256x128.size a ≤ S4x65536x128.size a) (f : S4x65536x128.Idx → Elt F .f32) (i : Fin 256) (j : Fin 128)
    (y : S4x65536x128.Idx) (h0 : (y 0).val = off 0) (h1 : (y 1).val = off 1 + i.val) (h2 : (y 2).val = off 2 + j.val) :
    (oW off h).view.read (Elt F) f (ix2 (n0 := 256) (n1 := 128) i j) = f y := by
  rw [View.read_apply]
  show f (((Rect.unit (s := S4x65536x128) off S1x256x128.size h).emb (Shape.reshapeEquiv _ (ix2 (n0 := 256) (n1 := 128) i j)))) = f y
  rw [ValueIdx.reshapeEquiv_ix2_1ab]
  congr 1
  funext a
  apply Fin.ext
  rw [Rect.emb_apply]
  match a with
  | 0 => simp [h0]
  | 1 => simp [h1]
  | 2 => simp [h2]

/-- A window of 128 output lines, element by element. -/
theorem read_pW (off : Fin 3 → ℕ) (h : ∀ a, off a + S1x128x128.size a ≤ S4x65536x128.size a) (f : S4x65536x128.Idx → Elt F .f32) (i : Fin 128) (j : Fin 128)
    (y : S4x65536x128.Idx) (h0 : (y 0).val = off 0) (h1 : (y 1).val = off 1 + i.val) (h2 : (y 2).val = off 2 + j.val) :
    (pW off h).view.read (Elt F) f (ix2 (n0 := 128) (n1 := 128) i j) = f y := by
  rw [View.read_apply]
  show f (((Rect.unit (s := S4x65536x128) off S1x128x128.size h).emb (Shape.reshapeEquiv _ (ix2 (n0 := 128) (n1 := 128) i j)))) = f y
  rw [ValueIdx.reshapeEquiv_ix2_1ab]
  congr 1
  funext a
  apply Fin.ext
  rw [Rect.emb_apply]
  match a with
  | 0 => simp [h0]
  | 1 => simp [h1]
  | 2 => simp [h2]

/-- A window of 256 table lines, element by element. -/
theorem read_wW (off : Fin 2 → ℕ) (h : ∀ a, off a + S256x128.size a ≤ S65552x128.size a) (f : S65552x128.Idx → Elt F .f32) (i : Fin 256) (j : Fin 128)
    (y : S65552x128.Idx) (h0 : (y 0).val = off 0 + i.val) (h1 : (y 1).val = off 1 + j.val) :
    (wW off h).view.read (Elt F) f (ix2 (n0 := 256) (n1 := 128) i j) = f y := by
  rw [View.read_apply]
  show f (((Rect.unit (s := S65552x128) off S256x128.size h).emb (ix2 (n0 := 256) (n1 := 128) i j))) = f y
  congr 1
  funext a
  apply Fin.ext
  rw [Rect.emb_apply]
  match a with
  | 0 => simp [h0]
  | 1 => simp [h1]

/-- The chunk of table lines a tile stages, read, is what the linear output holds at the window it goes to. -/
theorem linear_chunk (w : S65552x128.Idx → Elt F .f32) (b r : ℕ) (hr : r < 65536)
    (off : Fin 3 → ℕ) (h : ∀ a, off a + S1x256x128.size a ≤ S4x65536x128.size a) (e : off = ![b, r, 0])
    (off' : Fin 2 → ℕ) (h' : ∀ a, off' a + S256x128.size a ≤ S65552x128.size a) (e' : off' = ![r + 16, 0]) :
    (oW off h).view.read (Elt F) (linear w) = (wW off' h').view.read (Elt F) w := by
  subst e e'
  funext z
  obtain ⟨i, j, rfl⟩ : ∃ (i : Fin 256) (j : Fin 128), z = ix2 (n0 := 256) (n1 := 128) i j := ⟨z 0, z 1, eq_ix2 (n0 := 256) (n1 := 128) z⟩
  have hb : b + 1 ≤ 4 := h 0
  have hr' : r + 256 ≤ 65536 := h 1
  rw [read_oW (F := F) _ h _ i j (ix3 (n0 := 4) (n1 := 65536) (n2 := 128) ⟨b, by omega⟩ ⟨r + i.val, by omega⟩ j) rfl rfl (by simp),
    read_wW (F := F) _ h' _ i j (ix2 (n0 := 65552) (n1 := 128) ⟨r + i.val + 16, by omega⟩ j) (by simp; omega) (by simp)]
  rfl

end Cert.Proof.K

end
-- ==== Proof.Words.lean ====
/-
  The index words a patch computes: how many pads its sixteen tokens have, which table lines they ask for.
-/
module

public import proofs.«01_k».proof.Proof.Values

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The number of pads -/

/-- Lane `k` of sixteen, as an index. -/
theorem ofLane_eq (k : Fin 16) : (Shape.ofLane (d := ![16]) k : S16.Idx) = ix1 (n := 16) k := by
  funext a
  match a with
  | 0 => rfl

/-- The sum of the sixteen lanes, a one at every pad token, as the kernel computes it. -/
def padCount (vec : IVec S16 32) : BitVec 32 :=
  extractAt ![15] (scan .sum (select (cmpi .eq vec (broadcast S16 1#32)) (broadcast S16 1#32) (broadcast S16 0#32))) inpos_S16_p15

/-- A running sum of zeros and ones stays small, and a one met makes it positive. -/
theorem foldl_marks {α : Type} (v : α → BitVec 32) (hv : ∀ k, (v k).toNat ≤ 1) (l : List α) :
    ∀ a : BitVec 32, a.toNat + l.length < 2 ^ 31 →
      a.toNat ≤ (l.foldl (fun r k => r + v k) a).toNat ∧ (l.foldl (fun r k => r + v k) a).toNat ≤ a.toNat + l.length
        ∧ (∀ k ∈ l, v k = 1#32 → 0 < (l.foldl (fun r k => r + v k) a).toNat) := by
  induction l with
  | nil => intro a _; exact ⟨le_rfl, le_rfl, fun _ h => absurd h List.not_mem_nil⟩
  | cons k l ih =>
    intro a ha
    have hk := hv k
    simp only [List.length_cons] at ha ⊢
    have hs : (a + v k).toNat = a.toNat + (v k).toNat := by rw [BitVec.toNat_add, Nat.mod_eq_of_lt (by omega)]
    obtain ⟨h1, h2, h3⟩ := ih (a + v k) (by omega)
    refine ⟨by simp only [List.foldl_cons]; omega, by simp only [List.foldl_cons]; omega, ?_⟩
    intro j hj e
    simp only [List.foldl_cons]
    rcases List.mem_cons.mp hj with rfl | hj
    · have : (v j).toNat = 1 := by rw [e]; rfl
      omega
    · exact h3 j hj e

/-- The count, lane 0 first and then the fifteen others in order. -/
theorem padCount_eq (vec : IVec S16 32) : padCount vec
    = ((List.finRange 16).filter fun k => decide (0 < k.val ∧ k.val ≤ 15)).foldl
        (fun r k => r + select (cmpi .eq vec (broadcast S16 1#32)) (broadcast S16 1#32) (broadcast S16 0#32) (ix1 (n := 16) k))
        (select (cmpi .eq vec (broadcast S16 1#32)) (broadcast S16 1#32) (broadcast S16 0#32) (ix1 (n := 16) 0)) := by
  unfold padCount
  generalize select (cmpi .eq vec (broadcast S16 1#32)) (broadcast S16 1#32) (broadcast S16 0#32) = m
  unfold extractAt scan
  refine congrArg₂ (fun step (r : BitVec 32) => List.foldl step r ((List.finRange 16).filter fun k => decide (0 < k.val ∧ k.val ≤ 15))) ?_ ?_
  · funext r k
    exact congrArg (fun x => r + m x) (ofLane_eq k)
  · exact congrArg m (ofLane_eq 0)

/-- Fifteen lanes follow the first. -/
theorem lanes_after_first : ((List.finRange 16).filter fun k => decide (0 < k.val ∧ k.val ≤ 15)).length = 15 := by decide

/-- The count is at most sixteen, and positive where some token is a pad. -/
theorem padCount_bounds (vec : IVec S16 32) (l : Fin 16) (hl : vec (ix1 (n := 16) l) = 1#32) :
    0 < (padCount vec).toNat ∧ (padCount vec).toNat ≤ 16 := by
  rw [padCount_eq]
  obtain ⟨v, hvd⟩ : ∃ v : Fin 16 → BitVec 32, v = fun k => select (cmpi .eq vec (broadcast S16 1#32)) (broadcast S16 1#32) (broadcast S16 0#32) (ix1 (n := 16) k) := ⟨_, rfl⟩
  have hv : ∀ k, (v k).toNat ≤ 1 := by
    intro k
    rw [hvd]
    show (Scalar.select _ 1#32 0#32).toNat ≤ 1
    unfold Scalar.select; split <;> decide
  have hvl : v l = 1#32 := by
    rw [hvd]
    show Scalar.select (IntOp.cmpi .eq (vec (ix1 (n := 16) l)) 1#32) 1#32 0#32 = 1#32
    rw [hl]; rfl
  have h0 := hv 0
  have hmem : l ≠ 0 → l ∈ (List.finRange 16).filter fun k => decide (0 < k.val ∧ k.val ≤ 15) := by
    clear hl hvl; revert l; decide
  have hlen := lanes_after_first
  change 0 < (((List.finRange 16).filter fun k => decide (0 < k.val ∧ k.val ≤ 15)).foldl
        (fun r k => r + (fun k => select (cmpi .eq vec (broadcast S16 1#32)) (broadcast S16 1#32) (broadcast S16 0#32) (ix1 (n := 16) k)) k)
        ((fun k => select (cmpi .eq vec (broadcast S16 1#32)) (broadcast S16 1#32) (broadcast S16 0#32) (ix1 (n := 16) k)) 0)).toNat
    ∧ (((List.finRange 16).filter fun k => decide (0 < k.val ∧ k.val ≤ 15)).foldl
        (fun r k => r + (fun k => select (cmpi .eq vec (broadcast S16 1#32)) (broadcast S16 1#32) (broadcast S16 0#32) (ix1 (n := 16) k)) k)
        ((fun k => select (cmpi .eq vec (broadcast S16 1#32)) (broadcast S16 1#32) (broadcast S16 0#32) (ix1 (n := 16) k)) 0)).toNat ≤ 16
  rw [← hvd]
  generalize (List.finRange 16).filter (fun k => decide (0 < k.val ∧ k.val ≤ 15)) = R at hmem hlen ⊢
  obtain ⟨h1, h2, h3⟩ := foldl_marks v hv R (v 0) (by omega)
  refine ⟨?_, by omega⟩
  by_cases hz : l = 0
  · subst hz
    have : (v 0).toNat = 1 := by rw [hvl]; rfl
    omega
  · exact h3 l (hmem hz) hvl

/-- A patch is skipped only where no token is a pad. -/
theorem no_pad (vec : IVec S16 32) (h : ¬ k0_cond1 (padCount vec) = 1#1) (l : Fin 16) : vec (ix1 (n := 16) l) ≠ 1#32 := by
  intro hl
  apply h
  obtain ⟨h1, h2⟩ := padCount_bounds vec l hl
  generalize padCount vec = n at h1 h2 ⊢
  have hsgt : (0#32).slt n = true := by
    rw [BitVec.slt_iff_toInt_lt, BitVec.toInt_eq_toNat_of_lt (x := n) (by omega)]
    simpa using h1
  show IntOp.cmpi .ne (BitVec.setWidth 32 (BitVec.ofBool ((0#32).slt n))) 0#32 = 1#1
  rw [hsgt]; rfl

/-! ## The list entries -/

/-- The sixteen lane numbers. -/
abbrev laneNo : IVec S16 32 := iota .scVector S16 32 [0] iota_S16_d0_w32_scVector

/-- The lanes are numbered in order. -/
theorem laneNo_apply (l : Fin 16) : laneNo (ix1 (n := 16) l) = BitVec.ofNat 32 l.val := by
  revert l; decide

/-- The table rows of sixteen positions from `v2 + c` on: row 1 at a pad, the position plus two elsewhere. -/
abbrev rowsOf (vec v3 : IVec S16 32) (v2 c : BitVec 32) : IVec S16 32 :=
  select (cmpi .eq vec (broadcast S16 1#32)) (broadcast S16 1#32) (addi (broadcast S16 (Scalar.addi (Scalar.addi v2 c) 2#32)) v3)

/-- The row of each lane. -/
theorem rowsOf_apply (vec : IVec S16 32) (v2 c : BitVec 32) (p : ℕ) (hp : v2.toNat + c.toNat = p) (hb : p + 16 ≤ 8192) (l : Fin 16) :
    rowsOf vec laneNo v2 c (ix1 (n := 16) l) = BitVec.ofNat 32 (posOf (vec (ix1 (n := 16) l)) (p + l.val)) := by
  show Scalar.select (IntOp.cmpi .eq (vec (ix1 (n := 16) l)) 1#32) 1#32 (v2 + c + 2#32 + laneNo (ix1 (n := 16) l)) = _
  rw [laneNo_apply]
  unfold Scalar.select posOf IntOp.cmpi
  by_cases e : vec (ix1 (n := 16) l) = 1#32
  · rw [e]; rfl
  · have : (vec (ix1 (n := 16) l) == 1#32) = false := by simpa using e
    rw [if_neg e, if_neg (by simp [this])]
    apply BitVec.eq_of_toNat_eq
    have := l.isLt
    simp only [BitVec.toNat_add, BitVec.toNat_ofNat]
    omega

/-- The word of a loop's trip. -/
theorem iv_word (j : ℕ) : Scalar.addi 0#32 (Scalar.muli (Scf.iv 0#32 1#32 j) 1#32) = BitVec.ofNat 32 j := by
  show 0#32 + (0#32 + BitVec.ofNat 32 j * 1#32) * 1#32 = _
  simp

/-- The places of the list a trip writes: lane `l`'s is `8 l + j`. -/
abbrev placesOf (v3 : IVec S16 32) (jw : BitVec 32) : IVec S16 32 := addi (muli v3 (broadcast S16 8#32)) (broadcast S16 jw)

/-- The place in the list of each lane's line. -/
theorem placesOf_apply (j : ℕ) (hj : j < 8) (l : Fin 16) :
    (placesOf laneNo (BitVec.ofNat 32 j) (ix1 (n := 16) l)).toNat = 8 * l.val + j := by
  show (laneNo (ix1 (n := 16) l) * 8#32 + BitVec.ofNat 32 j).toNat = _
  rw [laneNo_apply]
  have := l.isLt
  simp only [BitVec.toNat_add, BitVec.toNat_mul, BitVec.toNat_ofNat]
  omega

/-- The lines a trip writes there: eighth `j` of each row. -/
abbrev linesOf (rows : IVec S16 32) (jw : BitVec 32) : IVec S16 32 := addi (muli rows (broadcast S16 8#32)) (broadcast S16 jw)

/-- The line of each lane. -/
theorem linesOf_apply (rows : IVec S16 32) (j : ℕ) (l : Fin 16) (p : ℕ) (h : rows (ix1 (n := 16) l) = BitVec.ofNat 32 p) :
    linesOf rows (BitVec.ofNat 32 j) (ix1 (n := 16) l) = BitVec.ofNat 32 (8 * p + j) := by
  show rows (ix1 (n := 16) l) * 8#32 + BitVec.ofNat 32 j = _
  rw [h]
  apply BitVec.eq_of_toNat_eq
  simp only [BitVec.toNat_add, BitVec.toNat_mul, BitVec.toNat_ofNat]
  omega

/-- Every place lies in the list. -/
theorem places_inb (j : ℕ) (hj : j < 8) (jw : BitVec 32) (hjw : jw = BitVec.ofNat 32 j) :
    ∀ a x, ((![placesOf laneNo jw] : Fin 1 → IVec S16 32) a x).toNat < S128.size a := by
  subst hjw
  intro a x
  obtain ⟨l, rfl⟩ : ∃ l : Fin 16, x = ix1 (n := 16) l := ⟨x 0, eq_ix1 (n := 16) x⟩
  match a with
  | 0 =>
    show (placesOf laneNo (BitVec.ofNat 32 j) (ix1 (n := 16) l)).toNat < 128
    rw [placesOf_apply j hj l]; have := l.isLt; omega

/-! ## A scatter of sixteen words -/

/-- Writes made one after another, seen at one place: the word every write there carries, or the old one where none falls there. -/
theorem foldl_put {β ι V : Type} (P : ι → β → Prop) [∀ k j, Decidable (P k j)] (vv : ι → V) (y : β) (u : V) (hu : ∀ k, P k y → vv k = u) (L : List ι) :
    ∀ g : β → V, ((∀ l ∈ L, ¬ P l y) → g y = u) → L.foldl (fun g k j => if P k j then vv k else g j) g y = u := by
  induction L with
  | nil => intro g hg; exact hg fun _ h => absurd h List.not_mem_nil
  | cons k L ih =>
    intro g hg
    rw [List.foldl_cons]
    apply ih
    intro hL
    by_cases e : P k y
    · rw [if_pos e, hu k e]
    · rw [if_neg e]
      apply hg
      intro l hl
      rcases List.mem_cons.mp hl with rfl | hl
      · exact e
      · exact hL l hl

/-- A scatter of sixteen words into the list is their writes one after another. -/
theorem storeIdx_eq [FloatOps F] (f : Vec F S128 .i32) (idx : IVec S16 32) (v : IVec S16 32) (h : ∀ a x, ((![idx] : Fin 1 → IVec S16 32) a x).toNat < S128.size a) :
    storeIdx (F := F) (s := S128) (e := .i32) f ![idx] v (fun _ => 1#1) false h
      = (List.finRange 16).foldl (fun (g : S128.Idx → BitVec 32) (k : Fin 16) j =>
          if (∀ a, (j a).val = (idxAt (s := S128) ![idx] h (ix1 (n := 16) k) a).val) then v (ix1 (n := 16) k) else g j) f := by
  unfold storeIdx
  refine congrArg (fun step => List.foldl step f (List.finRange 16)) ?_
  funext g k
  refine (if_pos rfl).trans ?_
  rw [show (Shape.ofLane k : (⟨1, ![16]⟩ : Shape).Idx) = ix1 (n := 16) k from ofLane_eq k]
  funext j
  by_cases e : ∀ a, (j a).val = (idxAt (s := S128) ![idx] h (ix1 (n := 16) k) a).val
  · exact (if_pos e).trans ((if_neg Bool.false_ne_true).trans (if_pos e).symm)
  · exact (if_neg e).trans (if_neg e).symm

/-- A scatter, at one place: the word of the lane that names it, or the old one where none does. -/
theorem storeIdx_lane [FloatOps F] (f : Vec F S128 .i32) (idx : IVec S16 32) (v : IVec S16 32) (h : ∀ a x, ((![idx] : Fin 1 → IVec S16 32) a x).toNat < S128.size a)
    (pl : Fin 16 → ℕ) (hpl : ∀ l, (idx (ix1 (n := 16) l)).toNat = pl l) (y : Fin 128) (u : BitVec 32)
    (hu : ∀ l, pl l = y.val → v (ix1 (n := 16) l) = u) (hf : (∀ l, pl l ≠ y.val) → f (ix1 (n := 128) y) = u) :
    storeIdx (F := F) (s := S128) (e := .i32) f ![idx] v (fun _ => 1#1) false h (ix1 (n := 128) y) = u := by
  have hP : ∀ k : Fin 16, (∀ a, ((ix1 (n := 128) y : S128.Idx) a).val = (idxAt (s := S128) ![idx] h (ix1 (n := 16) k) a).val) ↔ pl k = y.val := by
    intro k
    constructor
    · intro H; exact (hpl k).symm.trans (H 0).symm
    · intro e a
      match a with
      | 0 => exact ((hpl k).trans e).symm
  rw [storeIdx_eq]
  refine foldl_put (P := fun (k : Fin 16) (j : S128.Idx) => ∀ a, (j a).val = (idxAt (s := S128) ![idx] h (ix1 (n := 16) k) a).val)
    (vv := fun k => v (ix1 (n := 16) k)) _ u (fun k e => hu k ((hP k).mp e)) _ f fun H => hf fun l e => H l (List.mem_finRange l) ((hP l).mpr e)

end Cert.Proof.K

end
-- ==== Proof.Windows.lean ====
/-
  A tile's part of the output as the windows its copies fill, and what a copy leaves in a window.
-/
module

public import proofs.«01_k».proof.Proof.Values

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- A window held at its own elements, as the body's thread names it. -/
abbrev hold {sp : Space} {s : Shape} {e : EltTy} (d : Dev nD) (L : grid0.Coords) (m : Memref sig .scVector sp s e) (q : PosShare TreeShare)
    (f : Buf (Elt F) (m.view.loc (thr d L))) : sProp 𝕄 := m.view.loc (thr d L) ↦[m.view.set]{q} f

/-! ## Big separating conjunctions over small index types -/

/-- The first piece, and the others. -/
theorem bigSep_succ {n : ℕ} (Φ : Fin (n + 1) → sProp 𝕄) :
    bigSep Finset.univ Φ = iprop(Φ 0 ∗ bigSep Finset.univ fun i : Fin n => Φ i.succ) := by
  rw [bigSep_univ_equiv (finSuccEquiv n).symm Φ, Idealize.SL.BI.bigSep_univ_equiv (Equiv.optionEquivSumPUnit.{0} (Fin n)).symm, bigSep_univ_sum]
  have e : ∀ A B : sProp 𝕄, iprop(A ∗ B) = iprop(B ∗ A) := fun A B => BI.Entails.antisymm BI.sep_comm BI.sep_comm
  refine (e _ _).trans ?_
  rw [bigSep_univ_of_subsingleton PUnit.unit]
  rfl

/-- Four pieces, one by one. -/
theorem bigSep_four (Φ : Fin 4 → sProp 𝕄) : bigSep Finset.univ Φ = iprop(Φ 0 ∗ Φ 1 ∗ Φ 2 ∗ Φ 3) := by
  rw [bigSep_succ, bigSep_succ, bigSep_succ, bigSep_univ_of_subsingleton (0 : Fin 1)]; rfl

/-- Eight pieces, one by one. -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_succ, bigSep_succ, bigSep_succ, bigSep_succ, bigSep_succ, bigSep_succ, bigSep_succ, bigSep_univ_of_subsingleton (0 : Fin 1)]; rfl

/-! ## A tile's output as its 32 chunk windows -/

/-- The four windows a chunk goes to, one in each batch row. -/
abbrev four (d : Dev nD) (L : grid0.Coords) (v : BitVec 32)
    (h6 : ∀ a, (k0_off6 L v) a + S1x256x128.size a ≤ S4x65536x128.size a) (h7 : ∀ a, (k0_off7 L v) a + S1x256x128.size a ≤ S4x65536x128.size a)
    (h8 : ∀ a, (k0_off8 L v) a + S1x256x128.size a ≤ S4x65536x128.size a) (h9 : ∀ a, (k0_off9 L v) a + S1x256x128.size a ≤ S4x65536x128.size a)
    (f : Buf (Elt F) (oLoc d)) : sProp 𝕄 :=
  iprop(hold d L (oW (k0_off6 L v) h6) fullShare f ∗ hold d L (oW (k0_off7 L v) h7) fullShare f
    ∗ hold d L (oW (k0_off8 L v) h8) fullShare f ∗ hold d L (oW (k0_off9 L v) h9) fullShare f)

/-- The 32 windows of a tile's output. -/
abbrev chunks (d : Dev nD) (L : grid0.Coords) (f : Buf (Elt F) (oLoc d)) : sProp 𝕄 :=
  iprop(four d L 0#32 (k0_off6_inb L 0) (k0_off7_inb L 0) (k0_off8_inb L 0) (k0_off9_inb L 0) f
    ∗ four d L 32#32 (k0_off6_inb L 1) (k0_off7_inb L 1) (k0_off8_inb L 1) (k0_off9_inb L 1) f
    ∗ four d L 64#32 (k0_off6_inb L 2) (k0_off7_inb L 2) (k0_off8_inb L 2) (k0_off9_inb L 2) f
    ∗ four d L 96#32 (k0_off6_inb L 3) (k0_off7_inb L 3) (k0_off8_inb L 3) (k0_off9_inb L 3) f
    ∗ four d L 128#32 (k0_off6_inb L 4) (k0_off7_inb L 4) (k0_off8_inb L 4) (k0_off9_inb L 4) f
    ∗ four d L 160#32 (k0_off6_inb L 5) (k0_off7_inb L 5) (k0_off8_inb L 5) (k0_off9_inb L 5) f
    ∗ four d L 192#32 (k0_off6_inb L 6) (k0_off7_inb L 6) (k0_off8_inb L 6) (k0_off9_inb L 6) f
    ∗ four d L 224#32 (k0_off6_inb L 7) (k0_off7_inb L 7) (k0_off8_inb L 7) (k0_off9_inb L 7) f)

/-- The elements of chunk `p.1`'s window in batch row `p.2`. -/
def chunkSet (L : grid0.Coords) (p : Fin 8 × Fin 4) : Finset S4x65536x128.Idx :=
  match p with
  | (r, 0) => (oW (k0_off6 L (BitVec.ofNat 32 (32 * r.val))) (k0_off6_inb L r)).view.set
  | (r, 1) => (oW (k0_off7 L (BitVec.ofNat 32 (32 * r.val))) (k0_off7_inb L r)).view.set
  | (r, 2) => (oW (k0_off8 L (BitVec.ofNat 32 (32 * r.val))) (k0_off8_inb L r)).view.set
  | (r, 3) => (oW (k0_off9 L (BitVec.ofNat 32 (32 * r.val))) (k0_off9_inb L r)).view.set

/-- Which elements a chunk has. -/
theorem mem_chunkSet (L : grid0.Coords) (r : Fin 8) (b : Fin 4) (y : S4x65536x128.Idx) :
    y ∈ chunkSet L (r, b) ↔ (y 0).val = b.val ∧ base L + 256 * r.val ≤ (y 1).val ∧ (y 1).val < base L + 256 * r.val + 256 := by
  match b with
  | 0 => exact set_oW (r := base L + 256 * r.val) _ _ (k0_off6_eq L r) y
  | 1 => exact set_oW (r := base L + 256 * r.val) _ _ (k0_off7_eq L r) y
  | 2 => exact set_oW (r := base L + 256 * r.val) _ _ (k0_off8_eq L r) y
  | 3 => exact set_oW (r := base L + 256 * r.val) _ _ (k0_off9_eq L r) y

/-- Different chunks are disjoint. -/
theorem chunkSet_disjoint (L : grid0.Coords) (p p' : Fin 8 × Fin 4) (h : p ≠ p') : Disjoint (chunkSet L p) (chunkSet L p') := by
  rw [Finset.disjoint_left]
  intro y hy hy'
  obtain ⟨r, b⟩ := p
  obtain ⟨r', b'⟩ := p'
  rw [mem_chunkSet] at hy hy'
  apply h
  have hb : b = b' := Fin.ext (by omega)
  have hr : r = r' := Fin.ext (by omega)
  rw [hb, hr]

/-- A tile's chunks are its part of the output. -/
theorem biUnion_chunkSet (L : grid0.Coords) : Finset.univ.biUnion (chunkSet L) = tileSet L := by
  ext y
  rw [Finset.mem_biUnion, mem_tileSet]
  constructor
  · rintro ⟨⟨r, b⟩, -, hy⟩
    rw [mem_chunkSet] at hy
    have := r.isLt
    omega
  · intro hy
    have h0 : (y 0).val < 4 := (y 0).isLt
    refine ⟨(⟨((y 1).val - base L) / 256, by omega⟩, ⟨(y 0).val, h0⟩), Finset.mem_univ _, ?_⟩
    rw [mem_chunkSet]
    show (y 0).val = (y 0).val ∧ base L + 256 * (((y 1).val - base L) / 256) ≤ (y 1).val ∧ (y 1).val < base L + 256 * (((y 1).val - base L) / 256) + 256
    omega

/-- A tile's part of the output is its chunks. -/
theorem chunks_eq (d : Dev nD) (L : grid0.Coords) (f : Buf (Elt F) (oLoc d)) :
    (oLoc d ↦[tileSet L]{fullShare} f : sProp 𝕄) = chunks d L f := by
  rw [← biUnion_chunkSet, pointsTo_biUnion _ _ fun p _ p' _ h => chunkSet_disjoint L p p' h, bigSep_univ_prod, bigSep_eight]
  simp only [bigSep_four]
  rfl

/-! ## What a landed copy leaves -/

/-- A buffer written whole reads back what was written. -/
theorem read_writes_head {κ : Kind} {sp : Space} {s : Shape} {e : EltTy} (v : View sig κ sp s e) (f : v.ty.Contents (Elt F)) (x : s.Idx → Elt F e)
    (l : List (View.Piece (Elt F) s e)) : v.read (Elt F) (v.writes (Elt F) f (⟨Rect.whole s, x⟩ :: l)) = x := by
  funext y
  have h := View.read_writes_cons_emb v f (Rect.whole s) x l y
  rwa [Rect.emb_whole_apply] at h

/-- Two contents that a view reads alike are alike on its elements. -/
theorem eq_on_of_read {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨x, -, rfl⟩ := Finset.mem_map.mp hi
  have := congrFun h x
  rw [View.read_apply, View.read_apply] at this
  exact (cast_bijective _).1 this

/-- A window a copy filled is held at any contents that reads what the copy carried. -/
theorem hold_landed {sp : Space} {s : Shape} {e : EltTy} (d : Dev nD) (L : grid0.Coords) (m : Memref sig .scVector sp s e) (q : PosShare TreeShare)
    (f g : Buf (Elt F) (m.view.loc (thr d L))) (p : s.Idx → Elt F e) (l : List (View.Piece (Elt F) s e)) (h : p = m.view.read (Elt F) g) :
    hold d L m q (m.view.writes (Elt F) f (⟨Rect.whole s, p⟩ :: l)) ⊢ hold d L m q g := by
  refine Entails.of_eq (pointsTo_congr (eq_on_of_read m.view _ _ ?_))
  rw [read_writes_head, h]

/-- A window of the output, once its chunk has landed, holds the linear copy. -/
theorem window_landed (d : Dev nD) (L : grid0.Coords) (w : Buf (Elt F) (wLoc d)) (o : Buf (Elt F) (oLoc d)) (b r : ℕ) (hr : r < 65536)
    (off : Fin 3 → ℕ) (h : ∀ a, off a + S1x256x128.size a ≤ S4x65536x128.size a) (e : off = ![b, r, 0])
    (off' : Fin 2 → ℕ) (h' : ∀ a, off' a + S256x128.size a ≤ S65552x128.size a) (e' : off' = ![r + 16, 0])
    (p : S256x128.Idx → Elt F .f32) (hp : p = (wW off' h').view.read (Elt F) w) :
    hold d L (oW off h) fullShare ((oW off h).view.writes (Elt F) o [⟨Rect.whole S256x128, p⟩]) ⊢ (hold d L (oW off h) fullShare (linear w) : sProp 𝕄) :=
  hold_landed d L (oW off h) fullShare o (linear w) p [] (hp.trans (linear_chunk w b r hr off h e off' h' e').symm)

/-- The four windows of a chunk, once its copies have landed, hold the linear copy. -/
theorem four_landed (d : Dev nD) (L : grid0.Coords) (w : Buf (Elt F) (wLoc d)) (o : Buf (Elt F) (oLoc d)) (r : Fin 8)
    (p : S256x128.Idx → Elt F .f32) (hp : p = (wW (k0_off5 L (BitVec.ofNat 32 (32 * r.val))) (k0_off5_inb L r)).view.read (Elt F) w) :
    iprop(hold d L (oW (k0_off6 L (BitVec.ofNat 32 (32 * r.val))) (k0_off6_inb L r)) fullShare
          ((oW (k0_off6 L (BitVec.ofNat 32 (32 * r.val))) (k0_off6_inb L r)).view.writes (Elt F) o [⟨Rect.whole S256x128, p⟩])
      ∗ hold d L (oW (k0_off7 L (BitVec.ofNat 32 (32 * r.val))) (k0_off7_inb L r)) fullShare
          ((oW (k0_off7 L (BitVec.ofNat 32 (32 * r.val))) (k0_off7_inb L r)).view.writes (Elt F) o [⟨Rect.whole S256x128, p⟩])
      ∗ hold d L (oW (k0_off8 L (BitVec.ofNat 32 (32 * r.val))) (k0_off8_inb L r)) fullShare
          ((oW (k0_off8 L (BitVec.ofNat 32 (32 * r.val))) (k0_off8_inb L r)).view.writes (Elt F) o [⟨Rect.whole S256x128, p⟩])
      ∗ hold d L (oW (k0_off9 L (BitVec.ofNat 32 (32 * r.val))) (k0_off9_inb L r)) fullShare
          ((oW (k0_off9 L (BitVec.ofNat 32 (32 * r.val))) (k0_off9_inb L r)).view.writes (Elt F) o [⟨Rect.whole S256x128, p⟩]))
      ⊢ (four d L (BitVec.ofNat 32 (32 * r.val)) (k0_off6_inb L r) (k0_off7_inb L r) (k0_off8_inb L r) (k0_off9_inb L r) (linear w) : sProp 𝕄) := by
  have hb := base_le L
  have hr := r.isLt
  have hlt : 4096 * (L 1).val + 2048 * (L 0).val + 256 * r.val < 65536 := by unfold base at hb; omega
  have A := fun b off h e => window_landed (F := F) d L w o b (4096 * (L 1).val + 2048 * (L 0).val + 256 * r.val) hlt off h e _ _ (k0_off5_eq L r) p hp
  exact BI.sep_mono (A 0 _ _ (k0_off6_eq L r)) (BI.sep_mono (A 1 _ _ (k0_off7_eq L r)) (BI.sep_mono (A 2 _ _ (k0_off8_eq L r)) (A 3 _ _ (k0_off9_eq L r))))

end Cert.Proof.K

end
-- ==== Proof.Patch.lean ====
/-
  One patch of a tile: where the sixteen tokens it looks at hold a pad, it lists the table lines the sixteen rows
  take, gathers them and copies them over the linear copy's.
-/
module

public import proofs.«01_k».proof.Proof.Words
public import proofs.«01_k».proof.Proof.Windows

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The table, whole, as the gathers name it. -/
abbrev wAll : Memref sig .scVector .hbm S65552x128 .f32 :=
  (wV).slice (Rect.unit (s := S65552x128) ![0, 0] S65552x128.size inb_S65552x128_S65552x128_0_0) (fun _ => rfl)

/-- The trips that write the list. -/
abbrev listLoop (L : grid0.Coords) (npad : BitVec 32) (rows v3 : IVec S16 32) (h1 : k0_cond1 npad = 1#1) :
    Prog (TpuEff nD τ sig (Elt F) Λ₀ (.scVector (cV L) (jV L))) PUnit :=
  Scf.Loop.for k0_t1_loop k0_t1_ok ⟨⟩ fun k0_t1 _ => do
    have hw : k0_chk1 npad (placesOf v3 (Scalar.addi 0#32 (Scalar.muli (Scf.iv 0#32 1#32 k0_t1) 1#32))) :=
      (← Prog.lift (TpuEff.assume (k0_chk1 npad (placesOf v3 (Scalar.addi 0#32 (Scalar.muli (Scf.iv 0#32 1#32 k0_t1) 1#32))))
        (k0_chk1.dec npad (placesOf v3 (Scalar.addi 0#32 (Scalar.muli (Scf.iv 0#32 1#32 k0_t1) 1#32)))))).down
    SparseCore.vectorStoreIdx lV ![placesOf v3 (Scalar.addi 0#32 (Scalar.muli (Scf.iv 0#32 1#32 k0_t1) 1#32))]
      (linesOf rows (Scalar.addi 0#32 (Scalar.muli (Scf.iv 0#32 1#32 k0_t1) 1#32))) (fun _ => 1#1) false
      (k0_idx1_inb npad _ hw h1) (View.stores_vmem_bits_univ h_S128 rfl)
    pure ⟨⟩

/-- A patch as the kernel spells it. -/
abbrev patch (L : grid0.Coords) (npad : BitVec 32) (vec v3 : IVec S16 32) (v2 c : BitVec 32) (off : Fin 3 → ℕ)
    (h : ∀ a, off a + S1x128x128.size a ≤ S4x65536x128.size a) (sem : DmaSems sig S_) :
    Prog (TpuEff nD τ sig (Elt F) Λ₀ (.scVector (cV L) (jV L))) PUnit := do
  if h1 : k0_cond1 npad = 1#1 then do
    listLoop L npad (rowsOf vec v3 v2 c) v3 h1
    SparseCore.enqueueIndirectGather rfl wAll gV gathers_S65552x128_S128x128 lV rfl cc0_scratch9.sem (View.wordExact_bits rfl) rfl (Or.inl rfl)
    SparseCore.waitIndirectGather cc0_scratch9.sem wAll gV (View.wordExact_bits rfl) (Memref.isWhole_whole cc0_scratch3).wordExact
    Prog.lift (.enqueueDma gV (.here (pW off h)) (.dma sem.sem) (Memref.isWhole_whole cc0_scratch3).wordExact ((View.wordExact_bits rfl).reshape _ _) ⟨Or.inl rfl, trivial⟩)
    Prog.lift (.waitDma2 sem.sem gV (pW off h) (Memref.isWhole_whole cc0_scratch3).wordExact ((View.wordExact_bits rfl).reshape _ _))
    pure ⟨⟩
  else do
    pure ⟨⟩

/-! ## The list, trip by trip -/

/-- The list after `j` trips: the first `j` eighths of each of the sixteen rows `P`. -/
def Listed (P : Fin 16 → ℕ) (j : ℕ) (f : S128.Idx → BitVec 32) : Prop :=
  ∀ y : Fin 128, y.val % 8 < j → f (ix1 (n := 128) y) = BitVec.ofNat 32 (8 * P ⟨y.val / 8, by omega⟩ + y.val % 8)

omit [FloatOps F] in
/-- At first nothing is listed. -/
theorem listed_zero (P : Fin 16 → ℕ) (f : S128.Idx → BitVec 32) : Listed P 0 f := fun _ h => absurd h (Nat.not_lt_zero _)

/-- A trip adds its eighth. -/
theorem listed_step (P : Fin 16 → ℕ) (rows : IVec S16 32) (hrows : ∀ l, rows (ix1 (n := 16) l) = BitVec.ofNat 32 (P l)) (j : ℕ) (hj : j < 8)
    (jw : BitVec 32) (hjw : jw = BitVec.ofNat 32 j) (f : S128.Idx → BitVec 32) (hf : Listed P j f)
    (h : ∀ a x, ((![placesOf laneNo jw] : Fin 1 → IVec S16 32) a x).toNat < S128.size a) :
    Listed P (j + 1) (storeIdx (F := F) (s := S128) (e := .i32) f ![placesOf laneNo jw] (linesOf rows jw) (fun _ => 1#1) false h) := by
  subst hjw
  intro y hy
  have hy' := y.isLt
  apply storeIdx_lane (F := F) f _ _ h (fun l => 8 * l.val + j) (placesOf_apply j hj)
  · intro l hl
    rw [linesOf_apply rows j l (P l) (hrows l)]
    have hl' : 8 * l.val + j = y.val := hl
    have h1 : (⟨y.val / 8, by omega⟩ : Fin 16) = l := Fin.ext (show y.val / 8 = l.val by omega)
    rw [h1, show y.val % 8 = j by omega]
  · intro H
    apply hf
    have h1 : 8 * (y.val / 8) + j ≠ y.val := H ⟨y.val / 8, by omega⟩
    omega

omit [FloatOps F] in
/-- The list's buffer, held whole, as a scatter into it names it. -/
theorem pts_lV (d : Dev nD) (L : grid0.Coords) (f : Buf (Elt F) ((lV).view.loc (thr d L))) :
    (((lV).access (.whole S128)).loc (thr d L) ↦[((lV).access (.whole S128)).set]{fullShare} f : sProp 𝕄) = ((lV).view.loc (thr d L) ↦{fullShare} f) := by
  rw [show ((lV).access (.whole S128)).set = Finset.univ from Memref.set_access_whole (cc0_scratch1 : Ref sig .scVector)]

omit [FloatOps F] in
/-- Reading the whole list reads its contents. -/
theorem read_lV (f : S128.Idx → BitVec 32) : ((lV).access (.whole S128)).read (Elt F) f = f :=
  Memref.read_access_whole (Elt F) (cc0_scratch1 : Ref sig .scVector) f

omit [FloatOps F] in
/-- Writing the whole list replaces its contents. -/
theorem write_lV (f g : S128.Idx → BitVec 32) : ((lV).access (.whole S128)).write (Elt F) f g Finset.univ = g :=
  Memref.write_access_whole_univ (Elt F) (cc0_scratch1 : Ref sig .scVector) f g

/-- What the loop that writes the list holds before trip `j`. -/
def listInv (d : Dev nD) (L : grid0.Coords) (P : Fin 16 → ℕ) (j : ℕ) (_ : PUnit) : sProp 𝕄 :=
  iprop(∃ f : Buf (Elt F) ((lV).view.loc (thr d L)), ((lV).view.loc (thr d L) ↦{fullShare} f) ∗ ⌜Listed P j f⌝)

/-! ## What the gather brings -/

omit [FloatOps F] in
/-- Reading the whole table reads its contents. -/
theorem read_wAll (w : S65552x128.Idx → Elt F .f32) : (wAll).view.read (Elt F) w = w := by
  funext y
  rw [View.read_apply]
  show w ((Rect.unit (s := S65552x128) ![0, 0] S65552x128.size inb_S65552x128_S65552x128_0_0).emb y) = w y
  congr 1
  funext a
  apply Fin.ext
  rw [Rect.emb_apply]
  match a with
  | 0 => simp
  | 1 => simp

omit [FloatOps F] in
/-- Every entry of a full list names a line of the table. -/
theorem listed_inb (P : Fin 16 → ℕ) (hP : ∀ l, P l < 8194) (f : S128.Idx → BitVec 32) (hf : Listed P 8 f) (x : S128.Idx) :
    ((lV).view.read (Elt F) f x).toNat < 65552 := by
  obtain ⟨y, rfl⟩ : ∃ y : Fin 128, x = ix1 (n := 128) y := ⟨x 0, eq_ix1 (n := 128) x⟩
  show (f (ix1 (n := 128) y)).toNat < 65552
  rw [hf y (by omega), BitVec.toNat_ofNat]
  have := hP ⟨y.val / 8, by omega⟩
  omega

/-- The list's entries are in order. -/
theorem rowMajor_list (i : Fin 128) : (S128.rowMajor (ix1 (n := 128) i)).val = i.val := by revert i; decide

omit [FloatOps F] in
/-- The gathered lines: line `i` of the buffer is eighth `i % 8` of row `P (i / 8)`. -/
theorem gathered (P : Fin 16 → ℕ) (hP : ∀ l, P l < 8194) (f : S128.Idx → BitVec 32) (hf : Listed P 8 f) (w : S65552x128.Idx → Elt F .f32)
    (hn : S128.numel = S128x128.size gathers_S65552x128_S128x128.axis')
    (hin : ∀ x, ((lV).view.read (Elt F) f x).toNat < S65552x128.size gathers_S65552x128_S128x128.axis) (i j : Fin 128) :
    SparseCore.gatherPayload gathers_S65552x128_S128x128 ((wAll).view.read (Elt F) w) (SparseCore.rows ((lV).view.read (Elt F) f) hn hin) (ix2 (n0 := 128) (n1 := 128) i j)
      = w (ix2 (n0 := 65552) (n1 := 128) (lineOf (P ⟨i.val / 8, by omega⟩) i.val (hP _)) j) := by
  rw [read_wAll]
  unfold SparseCore.gatherPayload
  congr 1
  funext a
  apply Fin.ext
  match a with
  | 0 =>
    have e := gathers_S65552x128_S128x128.idx_axis (SparseCore.rows ((lV).view.read (Elt F) f) hn hin) (ix2 (n0 := 128) (n1 := 128) i j)
    refine (congrArg Fin.val e).trans ?_
    show (f (S128.rowMajor.symm (Fin.cast hn.symm i))).toNat = 8 * P ⟨i.val / 8, by omega⟩ + i.val % 8
    have e2 : S128.rowMajor.symm (Fin.cast hn.symm i) = ix1 (n := 128) i := by
      rw [Equiv.symm_apply_eq]
      exact Fin.ext (rowMajor_list i).symm
    rw [e2, hf i (by omega), BitVec.toNat_ofNat]
    have := hP ⟨i.val / 8, by omega⟩
    omega
  | 1 => exact gathers_S65552x128_S128x128.idx_of_ne (SparseCore.rows ((lV).view.read (Elt F) f) hn hin) (ix2 (n0 := 128) (n1 := 128) i j) 1 (by decide)

omit [FloatOps F] in
/-- The gathered lines are what the output's window is to hold. -/
theorem gathered_eq (d : Dev nD) (L : grid0.Coords) (x : S4x8192.Idx → BitVec 32) (w : S65552x128.Idx → Elt F .f32) (b : Fin 4) (v : Fin 16)
    (off : Fin 3 → ℕ) (h : ∀ a, off a + S1x128x128.size a ≤ S4x65536x128.size a) (hoff : off = ![b.val, base L + 128 * v.val, 0])
    (vec : IVec S16 32) (hvec : ∀ (l : Fin 16) (s : Fin 8192), s.val = base L / 8 + 16 * v.val + l.val → vec (ix1 (n := 16) l) = x (ix2 (n0 := 4) (n1 := 8192) b s))
    (P : Fin 16 → ℕ) (hPe : ∀ l : Fin 16, P l = posOf (vec (ix1 (n := 16) l)) (base L / 8 + 16 * v.val + l.val)) (hP : ∀ l, P l < 8194)
    (f : S128.Idx → BitVec 32) (hf : Listed P 8 f)
    (hn : S128.numel = S128x128.size gathers_S65552x128_S128x128.axis')
    (hin : ∀ x, ((lV).view.read (Elt F) f x).toNat < S65552x128.size gathers_S65552x128_S128x128.axis) :
    SparseCore.gatherPayload gathers_S65552x128_S128x128 ((wAll).view.read (Elt F) w) (SparseCore.rows ((lV).view.read (Elt F) f) hn hin)
      = (pW off h).view.read (Elt F) (final x w) := by
  subst hoff
  funext z
  obtain ⟨i, j, rfl⟩ : ∃ (i : Fin 128) (j : Fin 128), z = ix2 (n0 := 128) (n1 := 128) i j := ⟨z 0, z 1, eq_ix2 (n0 := 128) (n1 := 128) z⟩
  have hb := base_le L
  have hv := v.isLt
  have hi := i.isLt
  have hb8 : base L % 8 = 0 := by unfold base; omega
  rw [gathered P hP f hf w hn hin i j,
    read_pW (F := F) _ h _ i j (ix3 (n0 := 4) (n1 := 65536) (n2 := 128) b ⟨base L + 128 * v.val + i.val, by omega⟩ j) rfl rfl (by simp)]
  unfold final
  congr 2
  apply Fin.ext
  show 8 * P ⟨i.val / 8, by omega⟩ + i.val % 8
    = 8 * posOf (x (ix2 (n0 := 4) (n1 := 8192) b ⟨(base L + 128 * v.val + i.val) / 8, by omega⟩)) ((base L + 128 * v.val + i.val) / 8)
      + (base L + 128 * v.val + i.val) % 8
  rw [hPe, hvec ⟨i.val / 8, by omega⟩ ⟨(base L + 128 * v.val + i.val) / 8, by omega⟩ (show (base L + 128 * v.val + i.val) / 8 = base L / 8 + 16 * v.val + i.val / 8 by omega)]
  show 8 * posOf _ (base L / 8 + 16 * v.val + i.val / 8) + i.val % 8 = _
  generalize x (ix2 (n0 := 4) (n1 := 8192) b ⟨(base L + 128 * v.val + i.val) / 8, _⟩) = t
  rw [show (base L + 128 * v.val + i.val) / 8 = base L / 8 + 16 * v.val + i.val / 8 by omega, show (base L + 128 * v.val + i.val) % 8 = i.val % 8 by omega]

/-! ## A patch's step -/

/-- What a tile holds before patch `n`: a share of the table, the list and the line buffer at whatever they hold, the
    semaphores at zero, its output elements with the first `n` patches in. -/
def St (d : Dev nD) (L : grid0.Coords) (q : PosShare TreeShare) (x : S4x8192.Idx → BitVec 32) (w : S65552x128.Idx → Elt F .f32)
    (O : CellTallies nD τ sig (HIx 1)) (W : Waits sig (HIx 1)) (R : Finset (GSem nD τ sig)) (n : ℕ) : sProp 𝕄 :=
  iprop(Transfers.MayWaits (thr d L) (default : HIx 1) O
    ∗ ∃ (W' : Waits sig (HIx 1)) (fl : Buf (Elt F) ((lV).view.loc (thr d L))) (fg : Buf (Elt F) ((gV).view.loc (thr d L))),
      ⌜∀ p ∈ W', p ∈ W ∨ p.2 = none⌝ ∗ owes (thr d L) O W'
      ∗ ((wAll).view.loc (thr d L) ↦{q} w) ∗ ((lV).view.loc (thr d L) ↦{fullShare} fl) ∗ ((gV).view.loc (thr d L) ↦{fullShare} fg)
      ∗ semVal (thr d L, SemLoc.dma cc0_scratch9.sem) 0 ∗ bigSep R (fun g => semVal g 0)
      ∗ (oLoc d ↦[tileSet L]{fullShare} mixAt n x w))

omit [FloatOps F] in
/-- A patch's window lies in its tile's part of the output. -/
theorem pW_subset (L : grid0.Coords) (b : Fin 4) (v : Fin 16) (off : Fin 3 → ℕ) (h : ∀ a, off a + S1x128x128.size a ≤ S4x65536x128.size a)
    (hoff : off = ![b.val, base L + 128 * v.val, 0]) : (pW off h).view.set ⊆ tileSet L := by
  intro y hy
  have hv := v.isLt
  rw [set_pW off h hoff] at hy
  rw [mem_tileSet]; omega

omit [FloatOps F] in
/-- Piece `n` of the tile's elements is window `n`. -/
theorem mem_pW (L : grid0.Coords) (b : Fin 4) (v : Fin 16) (off : Fin 3 → ℕ) (h : ∀ a, off a + S1x128x128.size a ≤ S4x65536x128.size a)
    (hoff : off = ![b.val, base L + 128 * v.val, 0]) (y : S4x65536x128.Idx) (hy : y ∈ tileSet L) :
    y ∈ (pW off h).view.set ↔ pieceOf y = 16 * b.val + v.val := by
  have hv := v.isLt
  have hb := base_le L
  have hb8 : base L % 2048 = 0 := by unfold base; omega
  rw [set_pW off h hoff]
  rw [mem_tileSet] at hy
  unfold pieceOf
  omega

omit [FloatOps F] in
/-- The window patched and the rest untouched are the elements with one more patch in. -/
theorem patched (d : Dev nD) (L : grid0.Coords) (x : S4x8192.Idx → BitVec 32) (w : S65552x128.Idx → Elt F .f32) (b : Fin 4) (v : Fin 16)
    (off : Fin 3 → ℕ) (h : ∀ a, off a + S1x128x128.size a ≤ S4x65536x128.size a) (hoff : off = ![b.val, base L + 128 * v.val, 0])
    (n : ℕ) (hn : n = 16 * b.val + v.val) :
    iprop(hold d L (pW off h) fullShare (final x w) ∗ (oLoc d ↦[tileSet L \ (pW off h).view.set]{fullShare} mixAt n x w))
      ⊢ (oLoc d ↦[tileSet L]{fullShare} mixAt (n + 1) x w : sProp 𝕄) := by
  have e1 : (hold d L (pW off h) fullShare (final x w) : sProp 𝕄) = (oLoc d ↦[(pW off h).view.set]{fullShare} mixAt (n + 1) x w) :=
    pointsTo_congr fun y hy => (mixAt_succ_of_eq n x w y (by
      rw [hn]; exact (mem_pW L b v off h hoff y (pW_subset L b v off h hoff hy)).mp hy)).symm
  have e2 : (oLoc d ↦[tileSet L \ (pW off h).view.set]{fullShare} mixAt n x w : sProp 𝕄)
      = (oLoc d ↦[tileSet L \ (pW off h).view.set]{fullShare} mixAt (n + 1) x w) :=
    pointsTo_congr fun y hy => (mixAt_succ_of_ne n x w y (by
      rw [hn]; intro e
      rw [Finset.mem_sdiff] at hy
      exact hy.2 ((mem_pW L b v off h hoff y hy.1).mpr e))).symm
  rw [e1, e2]
  exact (pointsTo_split_subset (pW_subset L b v off h hoff)).2

omit [FloatOps F] in
/-- Where no token is a pad nothing is to do. -/
theorem skipped (d : Dev nD) (L : grid0.Coords) (x : S4x8192.Idx → BitVec 32) (w : S65552x128.Idx → Elt F .f32) (b : Fin 4) (v : Fin 16)
    (vec : IVec S16 32) (hvec : ∀ (l : Fin 16) (s : Fin 8192), s.val = base L / 8 + 16 * v.val + l.val → vec (ix1 (n := 16) l) = x (ix2 (n0 := 4) (n1 := 8192) b s))
    (hno : ∀ l, vec (ix1 (n := 16) l) ≠ 1#32) (n : ℕ) (hn : n = 16 * b.val + v.val) :
    (oLoc d ↦[tileSet L]{fullShare} mixAt n x w : sProp 𝕄) ⊢ (oLoc d ↦[tileSet L]{fullShare} mixAt (n + 1) x w) := by
  refine Entails.of_eq (pointsTo_congr fun y hy => ?_)
  by_cases e : pieceOf y = n
  · rw [mixAt_succ_of_eq n x w y e]
    have e' : mixAt n x w y = linear w y := if_neg (by omega)
    rw [e']
    symm
    apply final_eq_linear
    have hb8 : base L % 2048 = 0 := by unfold base; omega
    have hv := v.isLt
    have hbl := base_le L
    rw [mem_tileSet] at hy
    have h0 : (y 0).val < 4 := (y 0).isLt
    have hb := b.isLt
    unfold pieceOf at e
    have hy0 : y 0 = b := Fin.ext (by omega)
    have hk := hno ⟨(y 1).val % 128 / 8, by omega⟩
    rw [hvec ⟨(y 1).val % 128 / 8, by omega⟩ ⟨(y 1).val / 8, by omega⟩ (show (y 1).val / 8 = base L / 8 + 16 * v.val + (y 1).val % 128 / 8 by omega)] at hk
    rw [hy0]
    exact hk
  · exact (mixAt_succ_of_ne n x w y e).symm

set_option maxHeartbeats 800000 in
/-- One patch: from the elements with `n` patches in to those with `n + 1`. -/
theorem wp_patch (d : Dev nD) (L : grid0.Coords) (q : PosShare TreeShare) (x : S4x8192.Idx → BitVec 32) (w : S65552x128.Idx → Elt F .f32)
    (O : CellTallies nD τ sig (HIx 1)) (W : Waits sig (HIx 1)) (R : Finset (GSem nD τ sig)) (n : ℕ)
    (npad : BitVec 32) (vec v3 : IVec S16 32) (v2 c : BitVec 32) (off : Fin 3 → ℕ)
    (h : ∀ a, off a + S1x128x128.size a ≤ S4x65536x128.size a) (sem : DmaSems sig S_) (Q : PUnit → sProp 𝕄)
    (b : Fin 4) (v : Fin 16) (hn : n = 16 * b.val + v.val)
    (hnpad : npad = padCount vec)
    (hvec : ∀ (l : Fin 16) (s : Fin 8192), s.val = base L / 8 + 16 * v.val + l.val → vec (ix1 (n := 16) l) = x (ix2 (n0 := 4) (n1 := 8192) b s))
    (hv3 : v3 = laneNo) (hv2 : v2.toNat = base L / 8) (hc : c.toNat = 16 * v.val)
    (hoff : off = ![b.val, base L + 128 * v.val, 0]) (hsem : (thr d L, SemLoc.dma sem.sem) ∈ R) :
    St d L q x w O W R n ⊢ iprop((St d L q x w O W R (n + 1) -∗ Q ⟨⟩)
      -∗ wp frame (wpE (defs₀ (F := F)) 𝒱₀ (thr d L) none) Set.univ (patch L npad vec v3 v2 c off h sem) Q) := by
  subst hnpad hv3
  unfold St
  iintro ⟨#Hmw, %W', %fl, %fg, %hW', HO, Hw, Hl, Hg, Hsg, HR, Ho⟩ HQ
  by_cases h1 : k0_cond1 (padCount vec) = 1#1
  · have hbl := base_le L
    have hv := v.isLt
    obtain ⟨P, hPd⟩ : ∃ P : Fin 16 → ℕ, P = fun l => posOf (vec (ix1 (n := 16) l)) (base L / 8 + 16 * v.val + l.val) := ⟨_, rfl⟩
    have hPe : ∀ l : Fin 16, P l = posOf (vec (ix1 (n := 16) l)) (base L / 8 + 16 * v.val + l.val) := fun l => congrFun hPd l
    have hP : ∀ l, P l < 8194 := fun l => by rw [hPe]; exact posOf_lt _ _ (by have := l.isLt; omega)
    have hrows : ∀ l, rowsOf vec laneNo v2 c (ix1 (n := 16) l) = BitVec.ofNat 32 (P l) := fun l => by
      rw [hPe]; exact rowsOf_apply vec v2 c _ (by omega) (by omega) l
    have hwhole : (gV).view.set = Finset.univ := View.set_whole _
    have hlist : (lV).view.set = Finset.univ := View.set_whole _
    unfold patch
    rw [dif_pos h1]
    unfold listLoop
    sl_for (listInv d L P) $$ [Hl]
    case region =>
      intro k _
      unfold listInv
      iintro ⟨%f, Hl, %hf⟩
      have hk : k.val < 8 := k.isLt
      have hchk : k0_chk1 (padCount vec) (placesOf laneNo (Scalar.addi 0#32 (Scalar.muli (Scf.iv 0#32 1#32 k) 1#32))) :=
        fun _ => places_inb k.val hk _ (iv_word k.val)
      sl_exec
      iapply (SparseCore.wp_vectorStoreIdx 𝒱₀ (thr d L) none Set.univ (base := lV)) $$ [Hl]
      · iapply (Entails.of_eq (pts_lV (F := F) d L f).symm); iexact Hl
      iintro Hl
      ihave Hl' := (Entails.of_eq (pts_lV (F := F) d L _)) $$ Hl
      sl_step
      iexists _
      isplitl [Hl']; · iexact Hl'
      ipureintro
      rw [write_lV, read_lV]
      exact listed_step (F := F) P _ hrows k.val hk _ (iv_word k.val) f hf _
    · unfold listInv
      iexists fl
      isplitl [Hl]; · iexact Hl
      ipureintro; exact listed_zero P fl
    iintro %_ HI
    unfold listInv
    icases HI with ⟨%f, Hl, %hf⟩
    have hin := listed_inb (F := F) P hP f hf
    ihave HR := (Entails.of_eq (SparseCore.bigSep_erase' hsem (Φ := fun g => (semVal g 0 : sProp 𝕄)))) $$ HR
    icases HR with ⟨Hsm, HR⟩
    ihave Ho := (pointsTo_split_subset (pW_subset L b v off h hoff)).1 $$ Ho
    icases Ho with ⟨Hp, Ho⟩
    ihave Hp := (show (oLoc d ↦[(pW off h).view.set]{fullShare} mixAt n x w : sProp 𝕄) ⊢ hold d L (pW off h) fullShare (mixAt n x w) from .rfl) $$ Hp
    sl_exec
    ihave Hp := (hold_landed (F := F) d L (pW off h) fullShare (mixAt n x w) (final x w) _ [] (by
      refine (read_writes_head (F := F) (gV).view fg _ []).trans ?_
      exact gathered_eq (F := F) d L x w b v off h hoff vec hvec P hPe hP f hf rfl hin)) $$ Hp
    ihave Ho := (patched (F := F) d L x w b v off h hoff n hn) $$ [Hp Ho]
    · isplitl [Hp] <;> iassumption
    sl_step
    iapply HQ
    isplitr; · iexact Hmw
    iexists _; iexists f; iexists _
    isplitr
    swap
    · isplitl [HO]; · iexact HO
      isplitl [Hw]; · iexact Hw
      isplitl [Hl]; · iexact Hl
      isplitl [Hg]; · iexact Hg
      isplitl [Hsg]; · iexact Hsg
      isplitl [HR Hsm]
      · iapply (Entails.of_eq (SparseCore.bigSep_erase' hsem (Φ := fun g => (semVal g 0 : sProp 𝕄))).symm)
        isplitl [Hsm] <;> iassumption
      iexact Ho
    ipureintro; intro p hp
    rcases Finset.mem_insert.mp hp with hp | hp; · exact .inr (hp ▸ rfl)
    rcases Finset.mem_insert.mp hp with hp | hp; · exact .inr (hp ▸ rfl)
    exact hW' p hp
  · unfold patch
    rw [dif_neg h1]
    sl_step
    iapply HQ
    isplitr; · iexact Hmw
    iexists W'; iexists fl; iexists fg
    isplitr; · ipureintro; exact hW'
    isplitl [HO]; · iexact HO
    isplitl [Hw]; · iexact Hw
    isplitl [Hl]; · iexact Hl
    isplitl [Hg]; · iexact Hg
    isplitl [Hsg]; · iexact Hsg
    isplitl [HR]; · iexact HR
    iapply (skipped d L x w b v vec hvec (no_pad vec h1) n hn) $$ Ho

omit [FloatOps F] in
/-- The first position of a tile as the kernel computes it. -/
theorem v2_toNat (L : grid0.Coords) :
    (Scalar.muli (Scalar.addi (Scalar.muli (BitVec.ofNat 32 (L 1).val) 2#32) (BitVec.ofNat 32 (L 0).val)) 256#32).toNat = base L / 8 := by
  have h0 : (L 0).val < 2 := (L 0).isLt
  have h1 : (L 1).val < 16 := (L 1).isLt
  show ((BitVec.ofNat 32 (L 1).val * 2#32 + BitVec.ofNat 32 (L 0).val) * 256#32).toNat = base L / 8
  unfold base
  simp only [BitVec.toNat_mul, BitVec.toNat_add, BitVec.toNat_ofNat]
  omega

/-- Patch `n` of the 64, batch row `n / 16` and position group `n % 16`. -/
theorem wp_patch_at (d : Dev nD) (L : grid0.Coords) (q : PosShare TreeShare) (x : S4x8192.Idx → BitVec 32) (w : S65552x128.Idx → Elt F .f32)
    (O : CellTallies nD τ sig (HIx 1)) (W : Waits sig (HIx 1)) (R : Finset (GSem nD τ sig)) (n : ℕ)
    (npad : BitVec 32) (vec v3 : IVec S16 32) (v2 c : BitVec 32) (off : Fin 3 → ℕ)
    (h : ∀ a, off a + S1x128x128.size a ≤ S4x65536x128.size a) (sem : DmaSems sig S_) (Q : PUnit → sProp 𝕄)
    (hlt : n / 16 < 4) (hnpad : npad = padCount vec)
    (hvec : ∀ (l : Fin 16) (s : Fin 8192), s.val = base L / 8 + 16 * (n % 16) + l.val → vec (ix1 (n := 16) l) = x (ix2 (n0 := 4) (n1 := 8192) ⟨n / 16, hlt⟩ s))
    (hv3 : v3 = laneNo) (hv2 : v2.toNat = base L / 8) (hc : c.toNat = 16 * (n % 16))
    (hoff : off = ![n / 16, base L + 128 * (n % 16), 0]) (hR : ∀ k : Fin 70, 6 ≤ k.val → (thr d L, SemLoc.dma k) ∈ R) (hsem : 6 ≤ sem.sem.val) :
    St d L q x w O W R n ⊢ iprop((St d L q x w O W R (n + 1) -∗ Q ⟨⟩)
      -∗ wp frame (wpE (defs₀ (F := F)) 𝒱₀ (thr d L) none) Set.univ (patch L npad vec v3 v2 c off h sem) Q) :=
  wp_patch d L q x w O W R n npad vec v3 v2 c off h sem Q ⟨n / 16, hlt⟩ ⟨n % 16, Nat.mod_lt _ (by decide)⟩ (Nat.div_add_mod n 16).symm
    hnpad hvec hv3 hv2 hc hoff (hR _ hsem)

/-- A patch with what the body does after it, on both branches, as the body spells it. -/
abbrev patchThen {α : Type} (L : grid0.Coords) (npad : BitVec 32) (vec v3 : IVec S16 32) (v2 c : BitVec 32) (off : Fin 3 → ℕ)
    (h : ∀ a, off a + S1x128x128.size a ≤ S4x65536x128.size a) (sem : DmaSems sig S_)
    (k : Prog (TpuEff nD τ sig (Elt F) Λ₀ (.scVector (cV L) (jV L))) α) :
    Prog (TpuEff nD τ sig (Elt F) Λ₀ (.scVector (cV L) (jV L))) α := do
  if h1 : k0_cond1 npad = 1#1 then do
    listLoop L npad (rowsOf vec v3 v2 c) v3 h1
    SparseCore.enqueueIndirectGather rfl wAll gV gathers_S65552x128_S128x128 lV rfl cc0_scratch9.sem (View.wordExact_bits rfl) rfl (Or.inl rfl)
    SparseCore.waitIndirectGather cc0_scratch9.sem wAll gV (View.wordExact_bits rfl) (Memref.isWhole_whole cc0_scratch3).wordExact
    Prog.lift (.enqueueDma gV (.here (pW off h)) (.dma sem.sem) (Memref.isWhole_whole cc0_scratch3).wordExact ((View.wordExact_bits rfl).reshape _ _) ⟨Or.inl rfl, trivial⟩)
    Prog.lift (.waitDma2 sem.sem gV (pW off h) (Memref.isWhole_whole cc0_scratch3).wordExact ((View.wordExact_bits rfl).reshape _ _))
    k
  else k

/-- The step of the patches: after patch `n` the body goes on from the next state. -/
theorem wp_patch_then {α : Type} (d : Dev nD) (L : grid0.Coords) (q : PosShare TreeShare) (x : S4x8192.Idx → BitVec 32) (w : S65552x128.Idx → Elt F .f32)
    (O : CellTallies nD τ sig (HIx 1)) (W : Waits sig (HIx 1)) (R : Finset (GSem nD τ sig)) (n : ℕ)
    (npad : BitVec 32) (vec v3 : IVec S16 32) (v2 c : BitVec 32) (off : Fin 3 → ℕ)
    (h : ∀ a, off a + S1x128x128.size a ≤ S4x65536x128.size a) (sem : DmaSems sig S_)
    (k : Prog (TpuEff nD τ sig (Elt F) Λ₀ (.scVector (cV L) (jV L))) α) (Q : α → sProp 𝕄)
    (hlt : n / 16 < 4) (hnpad : npad = padCount vec)
    (hvec : ∀ (l : Fin 16) (s : Fin 8192), s.val = base L / 8 + 16 * (n % 16) + l.val → vec (ix1 (n := 16) l) = x (ix2 (n0 := 4) (n1 := 8192) ⟨n / 16, hlt⟩ s))
    (hv3 : v3 = laneNo) (hv2 : v2.toNat = base L / 8) (hc : c.toNat = 16 * (n % 16))
    (hoff : off = ![n / 16, base L + 128 * (n % 16), 0]) (hR : ∀ k : Fin 70, 6 ≤ k.val → (thr d L, SemLoc.dma k) ∈ R) (hsem : 6 ≤ sem.sem.val) :
    St d L q x w O W R n ⊢ iprop((St d L q x w O W R (n + 1) -∗ wp frame (wpE (defs₀ (F := F)) 𝒱₀ (thr d L) none) Set.univ k Q)
      -∗ wp frame (wpE (defs₀ (F := F)) 𝒱₀ (thr d L) none) Set.univ (patchThen L npad vec v3 v2 c off h sem k) Q) := by
  have e : patchThen (F := F) L npad vec v3 v2 c off h sem k = (patch L npad vec v3 v2 c off h sem >>= fun _ => k) := by
    unfold patchThen patch
    by_cases h1 : k0_cond1 npad = 1#1
    · rw [dif_pos h1, dif_pos h1]
      simp only [bind_assoc, pure_bind]
    · rw [dif_neg h1, dif_neg h1, pure_bind]
  rw [e, wp_bind]
  iintro HSt HQ

  iapply (wp_patch_at d L q x w O W R n npad vec v3 v2 c off h sem _ hlt hnpad hvec hv3 hv2 hc hoff hR hsem) $$ HSt
  iexact HQ

end Cert.Proof.K

end
-- ==== Proof.Tokens.lean ====
/-
  The tokens a tile keeps, and its scratch arrays as the windows the copies fill.
-/
module

public import proofs.«01_k».proof.Proof.Windows

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tokens -/

/-- The 256 tokens of each batch row that a tile looks at. -/
def toks (x : S4x8192.Idx → BitVec 32) (L : grid0.Coords) : S4x256.Idx → BitVec 32 :=
  fun y => x (ix2 (n0 := 4) (n1 := 8192) (y 0) ⟨base L / 8 + (y 1).val, by
    have h1 : (y 1).val < 256 := (y 1).isLt
    have := base_le L
    omega⟩)

/-- An index `l` matched with shape `[1, a]` is `(0, l)`. -/
theorem reshapeEquiv_one {a : ℕ} (h : (⟨1, ![a]⟩ : Shape).numel = (⟨2, ![1, a]⟩ : Shape).numel) (l : Fin a) :
    Shape.reshapeEquiv h (ix1 l) = ix2 (⟨0, Nat.one_pos⟩ : Fin 1) l :=
  Shape.reshapeEquiv_eq_of_rowMajor h (by
    rw [Shape.rowMajor_val_two, Shape.rowMajor_val_one]
    show 0 * a + l.val = l.val
    omega)

/-- A row of the token scratch, element by element. -/
theorem read_tW (off : Fin 2 → ℕ) (h : ∀ a, off a + S1x256.size a ≤ S4x256.size a) (f : S4x256.Idx → BitVec 32) (j : Fin 256)
    (y : S4x256.Idx) (h0 : (y 0).val = off 0) (h1 : (y 1).val = off 1 + j.val) :
    (tW off h).view.read (Elt F) f (ix1 (n := 256) j) = f y := by
  rw [View.read_apply]
  show f (((Rect.unit (s := S4x256) off S1x256.size h).emb (Shape.reshapeEquiv _ (ix1 (n := 256) j)))) = f y
  rw [reshapeEquiv_one]
  congr 1
  funext a
  apply Fin.ext
  rw [Rect.emb_apply]
  match a with
  | 0 => simp [h0]
  | 1 => simp [h1]

/-- A tile's tokens of one batch row, element by element. -/
theorem read_iW (off : Fin 2 → ℕ) (h : ∀ a, off a + S1x256.size a ≤ S4x8192.size a) (f : S4x8192.Idx → BitVec 32) (j : Fin 256)
    (y : S4x8192.Idx) (h0 : (y 0).val = off 0) (h1 : (y 1).val = off 1 + j.val) :
    (iW off h).view.read (Elt F) f (ix1 (n := 256) j) = f y := by
  rw [View.read_apply]
  show f (((Rect.unit (s := S4x8192) off S1x256.size h).emb (Shape.reshapeEquiv _ (ix1 (n := 256) j)))) = f y
  rw [reshapeEquiv_one]
  congr 1
  funext a
  apply Fin.ext
  rw [Rect.emb_apply]
  match a with
  | 0 => simp [h0]
  | 1 => simp [h1]

/-- The tokens a row copy brings are the tile's. -/
theorem tok_row (x : S4x8192.Idx → BitVec 32) (L : grid0.Coords) (b : Fin 4)
    (off : Fin 2 → ℕ) (h : ∀ a, off a + S1x256.size a ≤ S4x256.size a) (e : off = ![b.val, 0])
    (off' : Fin 2 → ℕ) (h' : ∀ a, off' a + S1x256.size a ≤ S4x8192.size a) (e' : off' = ![b.val, 512 * (L 1).val + 256 * (L 0).val]) :
    (iW off' h').view.read (Elt F) x = (tW off h).view.read (Elt F) (toks x L) := by
  subst e e'
  funext z
  obtain ⟨j, rfl⟩ : ∃ j : Fin 256, z = ix1 (n := 256) j := ⟨z 0, eq_ix1 (n := 256) z⟩
  have hb := base_le L
  have hbe : base L / 8 = 512 * (L 1).val + 256 * (L 0).val := by unfold base; omega
  have hj := j.isLt
  rw [read_tW (F := F) _ h _ j (ix2 (n0 := 4) (n1 := 256) b j) rfl (by simp),
    read_iW (F := F) _ h' _ j (ix2 (n0 := 4) (n1 := 8192) b ⟨base L / 8 + j.val, by omega⟩) rfl (by simp [hbe])]
  rfl

/-- Sixteen lanes loaded from a row of the scratch. -/
theorem read_lanes (off : Fin 2 → ℕ) (h : ∀ a, off a + S1x16.size a ≤ S4x256.size a) (f : S4x256.Idx → BitVec 32) (l : Fin 16)
    (y : S4x256.Idx) (h0 : (y 0).val = off 0) (h1 : (y 1).val = off 1 + l.val) :
    shapeCast S16 (View.readAt (Elt F) (tV).view (Rect.unit (s := S4x256) off S1x16.size h).toLoadRect f) shapeCasts_S1x16_S16 (ix1 (n := 16) l) = f y := by
  refine (ValueIdx.shapeCast_1a_a_apply (a := 16) _ shapeCasts_S1x16_S16 l).trans ?_
  show f ((Rect.unit (s := S4x256) off S1x16.size h).toLoadRect.idx (ix2 (n0 := 1) (n1 := 16) 0 l)) = f y
  congr 1
  funext a
  apply Fin.ext
  match a with
  | 0 => simp [LoadRect.idx, h0]
  | 1 => simp [LoadRect.idx, h1]

/-- Sixteen lanes of the tokens, as the patch of batch row `b` and position group `v` loads them. -/
theorem vec_toks (x : S4x8192.Idx → BitVec 32) (L : grid0.Coords) (b : Fin 4) (v : Fin 16)
    (off : Fin 2 → ℕ) (h : ∀ a, off a + S1x16.size a ≤ S4x256.size a) (e : off = ![b.val, 16 * v.val]) (l : Fin 16) (s : Fin 8192)
    (hs : s.val = base L / 8 + 16 * v.val + l.val) :
    shapeCast S16 (View.readAt (Elt F) (tV).view (Rect.unit (s := S4x256) off S1x16.size h).toLoadRect (toks x L)) shapeCasts_S1x16_S16 (ix1 (n := 16) l)
      = x (ix2 (n0 := 4) (n1 := 8192) b s) := by
  subst e
  have hv := v.isLt
  have hl := l.isLt
  rw [read_lanes (F := F) _ h _ l (ix2 (n0 := 4) (n1 := 256) b ⟨16 * v.val + l.val, by omega⟩) rfl rfl]
  unfold toks
  congr 2
  apply Fin.ext
  show base L / 8 + (16 * v.val + l.val) = s.val
  omega

/-! ## The scratch arrays cut into the copies' windows -/

/-- The elements of a row of the token scratch. -/
theorem set_tW (b : ℕ) (h : ∀ a, (![b, 0] : Fin 2 → ℕ) a + S1x256.size a ≤ S4x256.size a) (y : S4x256.Idx) :
    y ∈ (tW ![b, 0] h).view.set ↔ (y 0).val = b := by
  rw [Memref.set_view_squeeze]
  show y ∈ ((View.whole cc0_scratch0).slice (Rect.unit (s := S4x256) ![b, 0] S1x256.size h)).set ↔ _
  rw [View.set_slice_whole, Rect.mem_set_unit]
  constructor
  · intro H
    have h0 := H 0
    simp only [Matrix.cons_val_zero] at h0
    have : (![1, 256] : Fin 2 → ℕ) 0 = 1 := rfl
    omega
  · intro h0 a
    have h3 : (y 1).val < 256 := (y 1).isLt
    match a with
    | 0 => simp; omega
    | 1 => simp; omega

/-- The elements of one of the two buffers. -/
theorem set_bW (b : ℕ) (h : ∀ a, (![b, 0, 0] : Fin 3 → ℕ) a + S1x256x128.size a ≤ S2x256x128.size a) (y : S2x256x128.Idx) :
    y ∈ (bW ![b, 0, 0] h).view.set ↔ (y 0).val = b := by
  rw [Memref.set_view_squeeze]
  show y ∈ ((View.whole cc0_scratch2).slice (Rect.unit (s := S2x256x128) ![b, 0, 0] S1x256x128.size h)).set ↔ _
  rw [View.set_slice_whole, Rect.mem_set_unit]
  constructor
  · intro H
    have h0 := H 0
    simp only [Matrix.cons_val_zero] at h0
    have : (![1, 256, 128] : Fin 3 → ℕ) 0 = 1 := rfl
    omega
  · intro h0 a
    have h3 : (y 1).val < 256 := (y 1).isLt
    have h4 : (y 2).val < 128 := (y 2).isLt
    match a with
    | 0 => simp; omega
    | 1 => simp; omega
    | 2 => simp; omega

/-- The first patch's lanes, loaded while only the tokens' first row is known to have come. -/
theorem vec_first (x : S4x8192.Idx → BitVec 32) (L : grid0.Coords) (f : S4x256.Idx → BitVec 32)
    (h : ∀ a, (![0, 0] : Fin 2 → ℕ) a + S1x256.size a ≤ S4x256.size a) (h' : ∀ a, (![0, 0] : Fin 2 → ℕ) a + S1x16.size a ≤ S4x256.size a)
    (hf : (tW ![0, 0] h).view.read (Elt F) f = (tW ![0, 0] h).view.read (Elt F) (toks x L)) (l : Fin 16) (s : Fin 8192)
    (hs : s.val = base L / 8 + l.val) :
    shapeCast S16 (View.readAt (Elt F) (tV).view (Rect.unit (s := S4x256) ![0, 0] S1x16.size h').toLoadRect f) shapeCasts_S1x16_S16 (ix1 (n := 16) l)
      = x (ix2 (n0 := 4) (n1 := 8192) 0 s) := by
  have hl := l.isLt
  rw [read_lanes (F := F) _ h' f l (ix2 (n0 := 4) (n1 := 256) 0 ⟨l.val, by omega⟩) rfl (Nat.zero_add _).symm]
  refine (eq_on_of_read (F := F) (tW ![0, 0] h).view f (toks x L) hf _ ((set_tW 0 h _).mpr rfl)).trans ?_
  unfold toks
  congr 2
  exact Fin.ext hs.symm

/-- A row of the token scratch lies in it. -/
theorem tW_inb (b : Fin 4) : ∀ a, (![b.val, 0] : Fin 2 → ℕ) a + S1x256.size a ≤ S4x256.size a := by
  revert b; decide

/-- The token scratch is its four rows. -/
theorem tok_rows (d : Dev nD) (L : grid0.Coords) (f : Buf (Elt F) ((tV).view.loc (thr d L))) :
    ((tV).view.loc (thr d L) ↦{fullShare} f : sProp 𝕄)
      = iprop(hold d L (tW ![0,0] inb_S4x256_S1x256_0_0) fullShare f ∗ hold d L (tW ![1,0] inb_S4x256_S1x256_1_0) fullShare f
        ∗ hold d L (tW ![2,0] inb_S4x256_S1x256_2_0) fullShare f ∗ hold d L (tW ![3,0] inb_S4x256_S1x256_3_0) fullShare f) := by
  have e : (Finset.univ : Finset (Fin 4)).biUnion (fun b => ((tW ![b.val, 0] (tW_inb b)).view.set : Finset S4x256.Idx)) = (Finset.univ : Finset S4x256.Idx) := by
    ext y
    simp only [Finset.mem_biUnion, Finset.mem_univ, true_and, iff_true]
    exact ⟨y 0, (set_tW _ _ y).mpr rfl⟩
  show ((tV).view.loc (thr d L) ↦[(Finset.univ : Finset S4x256.Idx)]{fullShare} f : sProp 𝕄) = _
  rw [← e, pointsTo_biUnion (ℓ := (tV).view.loc (thr d L)) Finset.univ (fun b : Fin 4 => ((tW ![b.val, 0] (tW_inb b)).view.set : Finset S4x256.Idx)) (fun b _ b' _ h => by
    rw [Finset.disjoint_left]
    intro y hy hy'
    rw [set_tW] at hy hy'
    exact h (Fin.ext (hy.symm.trans hy'))), bigSep_four]
  rfl

/-- Each of the two buffers lies in the scratch. -/
theorem bW_inb (b : Fin 2) : ∀ a, (![b.val, 0, 0] : Fin 3 → ℕ) a + S1x256x128.size a ≤ S2x256x128.size a := by
  revert b; decide

/-- The two buffers are disjoint. -/
theorem bW_disjoint : Disjoint (bW ![0,0,0] inb_S2x256x128_S1x256x128_0_0_0).view.set (bW ![1,0,0] inb_S2x256x128_S1x256x128_1_0_0).view.set := by
  rw [Finset.disjoint_left]
  intro y hy hy'
  rw [set_bW] at hy hy'
  omega

/-- The two buffers are the whole scratch. -/
theorem bW_union : (bW ![0,0,0] inb_S2x256x128_S1x256x128_0_0_0).view.set ∪ (bW ![1,0,0] inb_S2x256x128_S1x256x128_1_0_0).view.set = Finset.univ := by
  ext y
  have : (y 0).val < 2 := (y 0).isLt
  rw [Finset.mem_union, set_bW, set_bW]
  simp only [Finset.mem_univ, iff_true]
  omega

/-- The staging buffer cut into its two slots. -/
theorem slots_split (d : Dev nD) (L : grid0.Coords) (f : Buf (Elt F) ((bV).view.loc (thr d L))) :
    ((bV).view.loc (thr d L) ↦{fullShare} f : sProp 𝕄)
      ⊢ iprop(hold d L (bW ![0,0,0] inb_S2x256x128_S1x256x128_0_0_0) fullShare f ∗ hold d L (bW ![1,0,0] inb_S2x256x128_S1x256x128_1_0_0) fullShare f) := by
  show ((bV).view.loc (thr d L) ↦[Finset.univ]{fullShare} f : sProp 𝕄) ⊢ _
  rw [← bW_union]
  exact (pointsTo_union (ℓ := (bV).view.loc (thr d L)) bW_disjoint).1

/-- The two slots put together again, whatever each holds. -/
theorem slots_join (d : Dev nD) (L : grid0.Coords) (f g : Buf (Elt F) ((bV).view.loc (thr d L))) :
    iprop(hold d L (bW ![0,0,0] inb_S2x256x128_S1x256x128_0_0_0) fullShare f ∗ hold d L (bW ![1,0,0] inb_S2x256x128_S1x256x128_1_0_0) fullShare g)
      ⊢ (iprop(∃ f, (bV).view.loc (thr d L) ↦{fullShare} f) : sProp 𝕄) := by
  refine (pointsTo_join (ℓ := (bV).view.loc (thr d L)) bW_disjoint).trans ?_
  rw [bW_union]
  iintro H
  iexists _; iexact H

end Cert.Proof.K

end
-- ==== Proof.Tile.lean ====
/-
  A tile's run: the tokens fetched, the chunks staged and copied out to the four batch rows, the 64 patches.
-/
module

public import proofs.«01_k».proof.Proof.Patch
public import proofs.«01_k».proof.Proof.Tokens

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The kernel body of the tile at grid point `L`. -/
abbrev bodyAt (L : grid0.Coords) : Prog (TpuEff nD τ sig (Elt F) Λ₀ (.scVector (cV L) (jV L))) PUnit :=
  cc0__sc_body L iV (Memref.isWhole_whole _) wV (Memref.isWhole_whole _) oV (Memref.isWhole_whole _) tV (Memref.isWhole_whole _) lV
    (Memref.isWhole_whole _) bV (Memref.isWhole_whole _) gV (Memref.isWhole_whole _) cc0_scratch4 cc0_scratch5 cc0_scratch6 cc0_scratch7
    cc0_scratch8 cc0_scratch9 cc0_scoped0 cc0_scoped1 cc0_scoped2 cc0_scoped3 cc0_scoped4 cc0_scoped5 cc0_scoped6 cc0_scoped7 cc0_scoped8
    cc0_scoped9 cc0_scoped10 cc0_scoped11 cc0_scoped12 cc0_scoped13 cc0_scoped14 cc0_scoped15 cc0_scoped16 cc0_scoped17 cc0_scoped18
    cc0_scoped19 cc0_scoped20 cc0_scoped21 cc0_scoped22 cc0_scoped23 cc0_scoped24 cc0_scoped25 cc0_scoped26 cc0_scoped27 cc0_scoped28
    cc0_scoped29 cc0_scoped30 cc0_scoped31 cc0_scoped32 cc0_scoped33 cc0_scoped34 cc0_scoped35 cc0_scoped36 cc0_scoped37 cc0_scoped38
    cc0_scoped39 cc0_scoped40 cc0_scoped41 cc0_scoped42 cc0_scoped43 cc0_scoped44 cc0_scoped45 cc0_scoped46 cc0_scoped47 cc0_scoped48
    cc0_scoped49 cc0_scoped50 cc0_scoped51 cc0_scoped52 cc0_scoped53 cc0_scoped54 cc0_scoped55 cc0_scoped56 cc0_scoped57 cc0_scoped58
    cc0_scoped59 cc0_scoped60 cc0_scoped61 cc0_scoped62 cc0_scoped63

/-- The step of the patches that load their lanes from the whole token scratch. -/
theorem wp_patch_next {α : Type} (d : Dev nD) (L : grid0.Coords) (q : PosShare TreeShare) (x : S4x8192.Idx → BitVec 32) (w : S65552x128.Idx → Elt F .f32)
    (O : CellTallies nD τ sig (HIx 1)) (W : Waits sig (HIx 1)) (R : Finset (GSem nD τ sig)) (n : ℕ)
    (npad : BitVec 32) (vec v3 : IVec S16 32) (v2 c : BitVec 32) (off : Fin 3 → ℕ)
    (h : ∀ a, off a + S1x128x128.size a ≤ S4x65536x128.size a) (sem : DmaSems sig S_)
    (k : Prog (TpuEff nD τ sig (Elt F) Λ₀ (.scVector (cV L) (jV L))) α) (Q : α → sProp 𝕄)
    (o : Fin 2 → ℕ) (ho : ∀ a, o a + S1x16.size a ≤ S4x256.size a)
    (hlt : n / 16 < 4) (hnpad : npad = padCount vec)
    (hvec : vec = shapeCast S16 (View.readAt (Elt F) (tV).view (Rect.unit (s := S4x256) o S1x16.size ho).toLoadRect (toks x L)) shapeCasts_S1x16_S16)
    (hoe : o = ![n / 16, 16 * (n % 16)])
    (hv3 : v3 = laneNo) (hv2 : v2.toNat = base L / 8) (hc : c.toNat = 16 * (n % 16))
    (hoff : off = ![n / 16, base L + 128 * (n % 16), 0]) (hR : ∀ k : Fin 70, 6 ≤ k.val → (thr d L, SemLoc.dma k) ∈ R) (hsem : 6 ≤ sem.sem.val) :
    St d L q x w O W R n ⊢ iprop((St d L q x w O W R (n + 1) -∗ wp frame (wpE (defs₀ (F := F)) 𝒱₀ (thr d L) none) Set.univ k Q)
      -∗ wp frame (wpE (defs₀ (F := F)) 𝒱₀ (thr d L) none) Set.univ (patchThen L npad vec v3 v2 c off h sem k) Q) :=
  wp_patch_then d L q x w O W R n npad vec v3 v2 c off h sem k Q hlt hnpad
    (fun l s hs => hvec ▸ vec_toks (F := F) x L ⟨n / 16, hlt⟩ ⟨n % 16, Nat.mod_lt _ (by decide)⟩ o ho hoe l s hs)
    hv3 hv2 hc hoff hR hsem

set_option maxHeartbeats 40000000 in
/-- The run from the windows: what the copies fill is handed over window by window, the shares of the tokens and of the
    table one to each copy and one to the gathers; the output elements end as the kernel's result. -/
theorem tile_run (d : Dev nD) (L : grid0.Coords) (qi : Fin 4 → PosShare TreeShare) (qw : Fin 9 → PosShare TreeShare)
    (x : Buf (Elt F) (iLoc d)) (w : Buf (Elt F) (wLoc d)) (o : Buf (Elt F) (oLoc d))
    (ft : Buf (Elt F) ((tV).view.loc (thr d L))) (fb : Buf (Elt F) ((bV).view.loc (thr d L)))
    (fl : Buf (Elt F) ((lV).view.loc (thr d L))) (fg : Buf (Elt F) ((gV).view.loc (thr d L)))
    (O : CellTallies nD τ sig (HIx 1)) (W : Waits sig (HIx 1)) (R : Finset (GSem nD τ sig)) (Q : PUnit → sProp 𝕄)
    (hR : ∀ k : Fin 70, 6 ≤ k.val → (thr d L, SemLoc.dma k) ∈ R)
    (p4 : Transfers.BatchOf (thr d L) (SemLoc.dma (sig := sig) cc0_scratch4.sem) 4)
    (p7 : Transfers.BatchOf (thr d L) (SemLoc.dma (sig := sig) cc0_scratch7.sem) 4 (windows := true))
    (p8 : Transfers.BatchOf (thr d L) (SemLoc.dma (sig := sig) cc0_scratch8.sem) 4 (windows := true)) :
    iprop(Transfers.MayWaits (thr d L) (default : HIx 1) O ∗ owes (thr d L) O W
      ∗ semVal (thr d L, SemLoc.dma cc0_scratch4.sem) 0 ∗ semVal (thr d L, SemLoc.dma cc0_scratch5.sem) 0
      ∗ semVal (thr d L, SemLoc.dma cc0_scratch6.sem) 0 ∗ semVal (thr d L, SemLoc.dma cc0_scratch7.sem) 0
      ∗ semVal (thr d L, SemLoc.dma cc0_scratch8.sem) 0 ∗ semVal (thr d L, SemLoc.dma cc0_scratch9.sem) 0
      ∗ hold d L (iW (k0_off1 L) (k0_off1_inb L)) (qi 0) x ∗ hold d L (iW (k0_off2 L) (k0_off2_inb L)) (qi 1) x
      ∗ hold d L (iW (k0_off3 L) (k0_off3_inb L)) (qi 2) x ∗ hold d L (iW (k0_off4 L) (k0_off4_inb L)) (qi 3) x
      ∗ hold d L (tW ![0,0] inb_S4x256_S1x256_0_0) fullShare ft ∗ hold d L (tW ![1,0] inb_S4x256_S1x256_1_0) fullShare ft
      ∗ hold d L (tW ![2,0] inb_S4x256_S1x256_2_0) fullShare ft ∗ hold d L (tW ![3,0] inb_S4x256_S1x256_3_0) fullShare ft
      ∗ hold d L (bW ![0,0,0] inb_S2x256x128_S1x256x128_0_0_0) fullShare fb ∗ hold d L (bW ![1,0,0] inb_S2x256x128_S1x256x128_1_0_0) fullShare fb
      ∗ hold d L (wW (k0_off5 L 0#32) (k0_off5_inb L 0)) (qw 0) w ∗ hold d L (wW (k0_off5 L 32#32) (k0_off5_inb L 1)) (qw 1) w
      ∗ hold d L (wW (k0_off5 L 64#32) (k0_off5_inb L 2)) (qw 2) w ∗ hold d L (wW (k0_off5 L 96#32) (k0_off5_inb L 3)) (qw 3) w
      ∗ hold d L (wW (k0_off5 L 128#32) (k0_off5_inb L 4)) (qw 4) w ∗ hold d L (wW (k0_off5 L 160#32) (k0_off5_inb L 5)) (qw 5) w
      ∗ hold d L (wW (k0_off5 L 192#32) (k0_off5_inb L 6)) (qw 6) w ∗ hold d L (wW (k0_off5 L 224#32) (k0_off5_inb L 7)) (qw 7) w
      ∗ ((wAll).view.loc (thr d L) ↦{qw 8} w)
      ∗ ((lV).view.loc (thr d L) ↦{fullShare} fl) ∗ ((gV).view.loc (thr d L) ↦{fullShare} fg)
      ∗ bigSep R (fun g => semVal g 0)
      ∗ chunks d L o)
      ⊢ iprop((St d L (qw 8) x w O W R 64
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0
            ∗ semVal (thr d L, SemLoc.dma cc0_scratch8.sem) 0
            ∗ (∃ f, (tV).view.loc (thr d L) ↦{fullShare} f) ∗ (∃ f, (bV).view.loc (thr d L) ↦{fullShare} f) -∗ Q ⟨⟩)
        -∗ wp frame (wpE (defs₀ (F := F)) 𝒱₀ (thr d L) none) Set.univ (bodyAt L) Q) := by
  unfold bodyAt cc0__sc_body
  iintro ⟨#Hmw, HO, Hs4, Hs5, Hs6, Hs7, Hs8, Hs9, Hi0, Hi1, Hi2, Hi3, Ht0, Ht1, Ht2, Ht3, Hb0, Hb1, Hw0, Hw1, Hw2, Hw3, Hw4, Hw5, Hw6, Hw7, Hw8, Hl, Hg, HR, Ho⟩ HQ
  icases Ho with ⟨⟨Ho00, Ho01, Ho02, Ho03⟩, ⟨Ho10, Ho11, Ho12, Ho13⟩, ⟨Ho20, Ho21, Ho22, Ho23⟩, ⟨Ho30, Ho31, Ho32, Ho33⟩, ⟨Ho40, Ho41, Ho42, Ho43⟩, ⟨Ho50, Ho51, Ho52, Ho53⟩, ⟨Ho60, Ho61, Ho62, Ho63⟩, ⟨Ho70, Ho71, Ho72, Ho73⟩⟩
  sl_exec
  ihave Hf0 := (four_landed (F := F) d L w o 0 _ (read_writes_head (F := F) (bW ![0,0,0] inb_S2x256x128_S1x256x128_0_0_0).view fb _ _)) $$ [Ho00 Ho01 Ho02 Ho03]
  · isplitl [Ho00]; · iexact Ho00
    isplitl [Ho01]; · iexact Ho01
    isplitl [Ho02]; · iexact Ho02
    iexact Ho03
  ihave Hf1 := (four_landed (F := F) d L w o 1 _ (read_writes_head (F := F) (bW ![1,0,0] inb_S2x256x128_S1x256x128_1_0_0).view fb _ _)) $$ [Ho10 Ho11 Ho12 Ho13]
  · isplitl [Ho10]; · iexact Ho10
    isplitl [Ho11]; · iexact Ho11
    isplitl [Ho12]; · iexact Ho12
    iexact Ho13
  ihave Hf2 := (four_landed (F := F) d L w o 2 _ (read_writes_head (F := F) (bW ![0,0,0] inb_S2x256x128_S1x256x128_0_0_0).view fb _ _)) $$ [Ho20 Ho21 Ho22 Ho23]
  · isplitl [Ho20]; · iexact Ho20
    isplitl [Ho21]; · iexact Ho21
    isplitl [Ho22]; · iexact Ho22
    iexact Ho23
  ihave Hf3 := (four_landed (F := F) d L w o 3 _ (read_writes_head (F := F) (bW ![1,0,0] inb_S2x256x128_S1x256x128_1_0_0).view fb _ _)) $$ [Ho30 Ho31 Ho32 Ho33]
  · isplitl [Ho30]; · iexact Ho30
    isplitl [Ho31]; · iexact Ho31
    isplitl [Ho32]; · iexact Ho32
    iexact Ho33
  ihave Hf4 := (four_landed (F := F) d L w o 4 _ (read_writes_head (F := F) (bW ![0,0,0] inb_S2x256x128_S1x256x128_0_0_0).view fb _ _)) $$ [Ho40 Ho41 Ho42 Ho43]
  · isplitl [Ho40]; · iexact Ho40
    isplitl [Ho41]; · iexact Ho41
    isplitl [Ho42]; · iexact Ho42
    iexact Ho43
  ihave Hf5 := (four_landed (F := F) d L w o 5 _ (read_writes_head (F := F) (bW ![1,0,0] inb_S2x256x128_S1x256x128_1_0_0).view fb _ _)) $$ [Ho50 Ho51 Ho52 Ho53]
  · isplitl [Ho50]; · iexact Ho50
    isplitl [Ho51]; · iexact Ho51
    isplitl [Ho52]; · iexact Ho52
    iexact Ho53
  ihave Hf6 := (four_landed (F := F) d L w o 6 _ (read_writes_head (F := F) (bW ![0,0,0] inb_S2x256x128_S1x256x128_0_0_0).view fb _ _)) $$ [Ho60 Ho61 Ho62 Ho63]
  · isplitl [Ho60]; · iexact Ho60
    isplitl [Ho61]; · iexact Ho61
    isplitl [Ho62]; · iexact Ho62
    iexact Ho63
  ihave Hf7 := (four_landed (F := F) d L w o 7 _ (read_writes_head (F := F) (bW ![1,0,0] inb_S2x256x128_S1x256x128_1_0_0).view fb _ _)) $$ [Ho70 Ho71 Ho72 Ho73]
  · isplitl [Ho70]; · iexact Ho70
    isplitl [Ho71]; · iexact Ho71
    isplitl [Ho72]; · iexact Ho72
    iexact Ho73
  ihave Ht0 := (hold_landed (F := F) d L (tW ![0,0] inb_S4x256_S1x256_0_0) fullShare _ (toks x L) _ []
    (tok_row (F := F) x L 0 ![0,0] inb_S4x256_S1x256_0_0 rfl _ (k0_off1_inb L) (k0_off1_eq L))) $$ [Ht0]
  · iexact Ht0
  ihave Ht1 := (hold_landed (F := F) d L (tW ![1,0] inb_S4x256_S1x256_1_0) fullShare _ (toks x L) _ []
    (tok_row (F := F) x L 1 ![1,0] inb_S4x256_S1x256_1_0 rfl _ (k0_off2_inb L) (k0_off2_eq L))) $$ [Ht1]
  · iexact Ht1
  ihave Ht2 := (hold_landed (F := F) d L (tW ![2,0] inb_S4x256_S1x256_2_0) fullShare _ (toks x L) _ []
    (tok_row (F := F) x L 2 ![2,0] inb_S4x256_S1x256_2_0 rfl _ (k0_off3_inb L) (k0_off3_eq L))) $$ [Ht2]
  · iexact Ht2
  ihave Ht3 := (hold_landed (F := F) d L (tW ![3,0] inb_S4x256_S1x256_3_0) fullShare _ (toks x L) _ []
    (tok_row (F := F) x L 3 ![3,0] inb_S4x256_S1x256_3_0 rfl _ (k0_off4_inb L) (k0_off4_eq L))) $$ [Ht3]
  · iexact Ht3
  ihave Ht := (Entails.of_eq (tok_rows (F := F) d L (toks x L)).symm) $$ [Ht0 Ht1 Ht2 Ht3]
  · isplitl [Ht0]; · iexact Ht0
    isplitl [Ht1]; · iexact Ht1
    isplitl [Ht2]; · iexact Ht2
    iexact Ht3
  ihave Hb := (slots_join (F := F) d L _ _) $$ [Hb0 Hb1]
  · isplitl [Hb0]; · iexact Hb0
    iexact Hb1
  ihave Ho := (Entails.of_eq (chunks_eq (F := F) d L (linear w)).symm) $$ [Hf0 Hf1 Hf2 Hf3 Hf4 Hf5 Hf6 Hf7]
  · isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    iexact Hf7
  ihave HSt : (St d L (qw 8) x w O W R 0) $$ [HO Hw8 Hl Hg Hs9 HR Ho]
  · unfold St
    isplitr; · iexact Hmw
    iexists _, fl, fg
    isplitr; rotate_left
    isplitl [HO]; · iexact HO
    isplitl [Hw8]; · iexact Hw8
    isplitl [Hl]; · iexact Hl
    isplitl [Hg]; · iexact Hg
    isplitl [Hs9]; · iexact Hs9
    isplitl [HR]; · iexact HR
    · rw [mixAt_zero]; iexact Ho
    ipureintro
    intro p hp
    simp only [Finset.mem_insert] at hp
    repeat' (rcases hp with hp | hp; · exact .inr (hp ▸ rfl))
    exact .inl hp
  -- the first patch's lanes were loaded from the row as the copy left it
  iapply (wp_patch_then (F := F) d L (qw 8) x w O W R 0 _ _ _ _ _ _ _ _ _ _ (by decide) ?hn ?hv ?h3 ?h2 ?hc ?ho hR ?hs) $$ HSt
  case hn => rfl
  case h3 => rfl
  case h2 => exact v2_toNat L
  case hc => rfl
  case ho => exact k0_off10_eq L
  case hs => decide
  case hv =>
    exact fun l s hs => vec_first (F := F) x L _ inb_S4x256_S1x256_0_0 inb_S4x256_S1x16_0_0
      ((read_writes_head (F := F) _ _ _ []).trans (tok_row (F := F) x L 0 ![0,0] inb_S4x256_S1x256_0_0 rfl _ (k0_off1_inb L) (k0_off1_eq L))) l s hs
  iintro HSt
  sl_exec
  iterate 63
    iapply (wp_patch_next (F := F) d L (qw 8) x w O W R _ _ _ _ _ _ _ _ _ _ _ _ _ (by decide) ?hn ?hv ?hoe ?h3 ?h2 ?hc ?ho hR ?hs) $$ HSt
    case hn => rfl
    case hv => rfl
    case hoe => rfl
    case h3 => rfl
    case h2 => exact v2_toNat L
    case hc => rfl
    case ho => exact (ClosedOff.eq).trans rfl
    case hs => decide
    iintro HSt
    sl_exec
  sl_step
  iapply HQ
  isplitl [HSt]; · iexact HSt
  isplitl [Hs4]; · iexact Hs4
  isplitl [Hs5]; · iexact Hs5
  isplitl [Hs6]; · iexact Hs6
  isplitl [Hs7]; · iexact Hs7
  isplitl [Hs8]; · iexact Hs8
  isplitl [Ht]; · iexists _; iexact Ht
  iexact Hb

end Cert.Proof.K

end
-- ==== Proof.Body.lean ====
/-
  A tile's task: its own buffers and semaphores taken out of what it owns, its shares of the tokens and of the table dealt
  to the copies, and the run.
-/
module

public import proofs.«01_k».proof.Proof.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's own semaphores and buffers -/

/-- The tile's copy semaphore number `k`. -/
abbrev cell (d : Dev nD) (L : grid0.Coords) (k : Fin 70) : GSem nD τ sig := (thr d L, SemLoc.dma k)

/-- Different semaphores of a tile are different cells. -/
theorem cell_ne (d : Dev nD) (L : grid0.Coords) {j k : Fin 70} (h : j ≠ k) : cell d L j ≠ cell d L k := by
  intro e
  have e2 : (SemLoc.dma j : SemLoc sig) = SemLoc.dma k := (Prod.mk.inj e).2
  injection e2 with e3
  exact h e3

/-- The tile's semaphores are its own cells. -/
theorem cell_mem (d : Dev nD) (L : grid0.Coords) (k : Fin 70) : cell d L k ∈ ownCells (thr d L) :=
  mem_ownCells.mpr ⟨rfl, by
    show (SemLoc.dma k : SemLoc sig).isScoped .scVector = true
    revert k; decide⟩

/-- The semaphores of the copies into a patch's place, and whatever else the tile owns. -/
def restCells (d : Dev nD) (L : grid0.Coords) : Finset (GSem nD τ sig) :=
  ((((((ownCells (thr d L)).erase (cell d L 0)).erase (cell d L 1)).erase (cell d L 2)).erase (cell d L 3)).erase (cell d L 4)).erase (cell d L 5)

/-- A patch's semaphore is not one of the first six. -/
theorem cell_mem_rest (d : Dev nD) (L : grid0.Coords) (k : Fin 70) (h : 6 ≤ k.val) : cell d L k ∈ restCells d L := by
  have hn : ∀ j : Fin 70, j.val < 6 → cell d L k ≠ cell d L j := fun j hj => cell_ne d L (fun e => by rw [e] at h; omega)
  unfold restCells
  exact Finset.mem_erase.mpr ⟨hn 5 (by decide), Finset.mem_erase.mpr ⟨hn 4 (by decide), Finset.mem_erase.mpr ⟨hn 3 (by decide),
    Finset.mem_erase.mpr ⟨hn 2 (by decide), Finset.mem_erase.mpr ⟨hn 1 (by decide), Finset.mem_erase.mpr ⟨hn 0 (by decide), cell_mem d L k⟩⟩⟩⟩⟩⟩

/-- The six semaphores of the scratch, and the rest. -/
theorem ownSems0_V (d : Dev nD) (L : grid0.Coords) :
    (ownSems0 (thr d L) : sProp 𝕄)
      = iprop(semVal (cell d L 0) 0 ∗ semVal (cell d L 1) 0 ∗ semVal (cell d L 2) 0 ∗ semVal (cell d L 3) 0 ∗ semVal (cell d L 4) 0
          ∗ semVal (cell d L 5) 0 ∗ bigSep (restCells d L) fun g => semVal g 0) := by
  have hm := cell_mem d L
  have hn := @cell_ne d L
  have h1 : cell d L 1 ∈ (ownCells (thr d L)).erase (cell d L 0) := Finset.mem_erase.mpr ⟨hn (by decide), hm 1⟩
  have h2 : cell d L 2 ∈ ((ownCells (thr d L)).erase (cell d L 0)).erase (cell d L 1) :=
    Finset.mem_erase.mpr ⟨hn (by decide), Finset.mem_erase.mpr ⟨hn (by decide), hm 2⟩⟩
  have h3 : cell d L 3 ∈ (((ownCells (thr d L)).erase (cell d L 0)).erase (cell d L 1)).erase (cell d L 2) :=
    Finset.mem_erase.mpr ⟨hn (by decide), Finset.mem_erase.mpr ⟨hn (by decide), Finset.mem_erase.mpr ⟨hn (by decide), hm 3⟩⟩⟩
  have h4 : cell d L 4 ∈ ((((ownCells (thr d L)).erase (cell d L 0)).erase (cell d L 1)).erase (cell d L 2)).erase (cell d L 3) :=
    Finset.mem_erase.mpr ⟨hn (by decide), Finset.mem_erase.mpr ⟨hn (by decide), Finset.mem_erase.mpr ⟨hn (by decide), Finset.mem_erase.mpr ⟨hn (by decide), hm 4⟩⟩⟩⟩
  have h5 : cell d L 5 ∈ (((((ownCells (thr d L)).erase (cell d L 0)).erase (cell d L 1)).erase (cell d L 2)).erase (cell d L 3)).erase (cell d L 4) :=
    Finset.mem_erase.mpr ⟨hn (by decide), Finset.mem_erase.mpr ⟨hn (by decide), Finset.mem_erase.mpr ⟨hn (by decide), Finset.mem_erase.mpr ⟨hn (by decide),
      Finset.mem_erase.mpr ⟨hn (by decide), hm 5⟩⟩⟩⟩⟩
  unfold SparseCore.Cfg.ownSems0 restCells
  rw [SparseCore.bigSep_erase' (hm 0), SparseCore.bigSep_erase' h1, SparseCore.bigSep_erase' h2, SparseCore.bigSep_erase' h3,
    SparseCore.bigSep_erase' h4, SparseCore.bigSep_erase' h5]

/-- A scratch buffer of the tile as the device names it. -/
abbrev buf (L : grid0.Coords) (r : Ref sig .scVector) : DevRef τ sig := (Proc.scVector (cV L) (jV L)).devRef r

/-- The tile's buffers but the four of its scratch. -/
def restBufs (L : grid0.Coords) : Finset (DevRef τ sig) :=
  ((((ownRefs (τ := τ) (.scVector (cV L) (jV L))).erase (buf L cc0_scratch0)).erase (buf L cc0_scratch1)).erase (buf L cc0_scratch2)).erase (buf L cc0_scratch3)

/-- Different references are different buffers of the tile. -/
theorem buf_ne (L : grid0.Coords) {r r' : Ref sig .scVector} (h : r ≠ r') : buf L r ≠ buf L r' := fun e => h (Proc.devRef_injective _ e)

/-- The four scratch buffers at some contents, and the rest. -/
theorem ownBufs_V (d : Dev nD) (L : grid0.Coords) :
    (ownBufs (thr d L) : sProp 𝕄)
      = iprop((∃ f, (tV).view.loc (thr d L) ↦{fullShare} f) ∗ (∃ f, (lV).view.loc (thr d L) ↦{fullShare} f)
          ∗ (∃ f, (bV).view.loc (thr d L) ↦{fullShare} f) ∗ (∃ f, (gV).view.loc (thr d L) ↦{fullShare} f)
          ∗ bigSep (restBufs L) fun b => iprop(∃ f, ((d, b) : Loc nD τ sig) ↦{fullShare} f)) := by
  have hm : ∀ r : Ref sig .scVector, (buf L r).owner = (buf L cc0_scratch0).owner → buf L r ∈ ownRefs (τ := τ) (.scVector (cV L) (jV L)) :=
    fun r h => SparseCore.Cfg.mem_ownRefs_of_owner (p := Proc.scVector (cV L) (jV L)) (b := buf L r) (h.trans rfl)
  have h1 : buf L cc0_scratch1 ∈ (ownRefs (τ := τ) (.scVector (cV L) (jV L))).erase (buf L cc0_scratch0) :=
    Finset.mem_erase.mpr ⟨buf_ne L (by decide), hm _ rfl⟩
  have h2 : buf L cc0_scratch2 ∈ ((ownRefs (τ := τ) (.scVector (cV L) (jV L))).erase (buf L cc0_scratch0)).erase (buf L cc0_scratch1) :=
    Finset.mem_erase.mpr ⟨buf_ne L (by decide), Finset.mem_erase.mpr ⟨buf_ne L (by decide), hm _ rfl⟩⟩
  have h3 : buf L cc0_scratch3 ∈ (((ownRefs (τ := τ) (.scVector (cV L) (jV L))).erase (buf L cc0_scratch0)).erase (buf L cc0_scratch1)).erase (buf L cc0_scratch2) :=
    Finset.mem_erase.mpr ⟨buf_ne L (by decide), Finset.mem_erase.mpr ⟨buf_ne L (by decide), Finset.mem_erase.mpr ⟨buf_ne L (by decide), hm _ rfl⟩⟩⟩
  unfold SparseCore.Cfg.ownBufs restBufs
  refine (SparseCore.bigSep_erase' (hm cc0_scratch0 rfl)).trans ?_
  rw [SparseCore.bigSep_erase' h1, SparseCore.bigSep_erase' h2, SparseCore.bigSep_erase' h3]

/-! ## The shares dealt to the copies -/

/-- A whole array's share cut down to the window a copy reads. -/
theorem window_of {sp : Space} {s : Shape} {e : EltTy} (d : Dev nD) (L : grid0.Coords) (m : Memref sig .scVector sp s e) (q : PosShare TreeShare)
    (f : Buf (Elt F) (m.view.loc (thr d L))) : (m.view.loc (thr d L) ↦{q} f : sProp 𝕄) ⊢ hold d L m q f :=
  (pointsTo_split_subset (q := q) (f := f) (Finset.subset_univ m.view.set)).1.trans sep_elim_left

/-- The token share of a tile dealt to its four row copies. -/
theorem tokens_dealt (d : Dev nD) (L : grid0.Coords) (q : PosShare TreeShare) (x : Buf (Elt F) (iLoc d)) :
    (iLoc d ↦{q} x : sProp 𝕄) ⊢ iprop(hold d L (iW (k0_off1 L) (k0_off1_inb L)) (Transfers.shareTok q 4 0) x
      ∗ hold d L (iW (k0_off2 L) (k0_off2_inb L)) (Transfers.shareTok q 4 1) x ∗ hold d L (iW (k0_off3 L) (k0_off3_inb L)) (Transfers.shareTok q 4 2) x
      ∗ hold d L (iW (k0_off4 L) (k0_off4_inb L)) (Transfers.shareTok q 4 3) x) := by
  refine (Transfers.pointsTo_toks_split q 4).trans (sep_elim_right.trans ?_)
  rw [bigSep_four]
  exact BI.sep_mono (window_of d L (iW (k0_off1 L) (k0_off1_inb L)) _ x) (BI.sep_mono (window_of d L (iW (k0_off2 L) (k0_off2_inb L)) _ x)
    (BI.sep_mono (window_of d L (iW (k0_off3 L) (k0_off3_inb L)) _ x) (window_of d L (iW (k0_off4 L) (k0_off4_inb L)) _ x)))

/-- Nine pieces, one by one. -/
theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  rw [bigSep_succ, bigSep_eight]; rfl

/-- The window of chunk `r` of the table. -/
abbrev chunkW (L : grid0.Coords) (r : Fin 8) : Memref sig .scVector .hbm S256x128 .f32 :=
  wW (k0_off5 L (BitVec.ofNat 32 (32 * r.val))) (k0_off5_inb L r)

/-- The table share of a tile dealt to its eight chunk copies and its gathers. -/
theorem table_dealt (d : Dev nD) (L : grid0.Coords) (q : PosShare TreeShare) (w : Buf (Elt F) (wLoc d)) :
    (wLoc d ↦{q} w : sProp 𝕄) ⊢ iprop(hold d L (chunkW L 0) (Transfers.shareTok q 9 0) w ∗ hold d L (chunkW L 1) (Transfers.shareTok q 9 1) w
      ∗ hold d L (chunkW L 2) (Transfers.shareTok q 9 2) w ∗ hold d L (chunkW L 3) (Transfers.shareTok q 9 3) w
      ∗ hold d L (chunkW L 4) (Transfers.shareTok q 9 4) w ∗ hold d L (chunkW L 5) (Transfers.shareTok q 9 5) w
      ∗ hold d L (chunkW L 6) (Transfers.shareTok q 9 6) w ∗ hold d L (chunkW L 7) (Transfers.shareTok q 9 7) w
      ∗ (wAll).view.loc (thr d L) ↦{Transfers.shareTok q 9 8} w) := by
  refine (Transfers.pointsTo_toks_split q 9).trans (sep_elim_right.trans ?_)
  rw [bigSep_nine]
  exact BI.sep_mono (window_of d L (chunkW L 0) _ w) (BI.sep_mono (window_of d L (chunkW L 1) _ w) (BI.sep_mono (window_of d L (chunkW L 2) _ w)
    (BI.sep_mono (window_of d L (chunkW L 3) _ w) (BI.sep_mono (window_of d L (chunkW L 4) _ w) (BI.sep_mono (window_of d L (chunkW L 5) _ w)
      (BI.sep_mono (window_of d L (chunkW L 6) _ w) (BI.sep_mono (window_of d L (chunkW L 7) _ w) (Entails.of_eq (show (wLoc d ↦{Transfers.shareTok q 9 8} w : sProp 𝕄) = ((wAll).view.loc (thr d L) ↦{Transfers.shareTok q 9 8} w) from rfl)))))))))

/-! ## The task -/

variable [FloatOps F]

set_option maxHeartbeats 4000000 in
/-- The task of the tile at grid point `L`: from its shares of the tokens and of the table and its own output elements, it
    leaves those elements at the kernel's result. -/
theorem tile_body (d : Dev nD) (L : grid0.Coords) (qi qw : PosShare TreeShare) (x : Buf (Elt F) (iLoc d)) (w : Buf (Elt F) (wLoc d)) (o : Buf (Elt F) (oLoc d))
    (hF : (K (F := F)).Facts) (O : CellTallies nD τ sig (HIx 1)) (W : Waits sig (HIx 1)) (hO : ∀ g, O g none = 0) :
    (iprop(levAts (K (F := F)).L (K (F := F)).lev ∗ emp
        ∗ ((iLoc d ↦{qi} x) ∗ (wLoc d ↦{qw} w) ∗ oLoc d ↦[tileSet L]{fullShare} o)
        ∗ scopedBufs (thr d L) ∗ scopedSems0 (thr d L) ∗ owes (thr d L) O W) : sProp 𝕄)
      ⊢ wp frame (wpE (defs₀ (F := F)) 𝒱₀ (thr d L) none) Set.univ (bodyAt L)
          fun _ => iprop((oLoc d ↦[tileSet L]{fullShare} final x w)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V, chunks_eq]
  iintro ⟨#Hlv, -, ⟨Hi, Hw, Ho⟩, ⟨⟨%ft, Ht⟩, ⟨%fl, Hl⟩, ⟨%fb, Hb⟩, ⟨%fg, Hg⟩, Hbufs⟩, ⟨Hs4, Hs5, Hs6, Hs7, Hs8, Hs9, HR⟩, HO⟩
  ihave Hmw := (show levAts (K (F := F)).L (K (F := F)).lev ⊢ Transfers.MayWaits (thr d L) (default : HIx 1) O from
    (K (F := F)).mayWaits_none (thr := thr d L) hO) $$ Hlv
  ihave Hi := (tokens_dealt d L qi x) $$ Hi
  icases Hi with ⟨Hi0, Hi1, Hi2, Hi3⟩
  ihave Hw := (table_dealt d L qw w) $$ Hw
  icases Hw with ⟨Hw0, Hw1, Hw2, Hw3, Hw4, Hw5, Hw6, Hw7, Hw8⟩
  ihave Ht := (Entails.of_eq (tok_rows d L ft)) $$ Ht
  icases Ht with ⟨Ht0, Ht1, Ht2, Ht3⟩
  ihave Hb := (slots_split d L fb) $$ Hb
  icases Hb with ⟨Hb0, Hb1⟩
  iapply (tile_run d L (Transfers.shareTok qi 4) (Transfers.shareTok qw 9) x w o ft fb fl fg O W (restCells d L) _ (cell_mem_rest d L)
    trivial trivial trivial) $$ [Hmw HO Hs4 Hs5 Hs6 Hs7 Hs8 Hs9 Hi0 Hi1 Hi2 Hi3 Ht0 Ht1 Ht2 Ht3 Hb0 Hb1 Hw0 Hw1 Hw2 Hw3 Hw4 Hw5 Hw6 Hw7 Hw8 Hl Hg HR Ho]
  · isplitl [Hmw]; · iexact Hmw
    isplitl [HO]; · iexact HO
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hi0]; · iexact Hi0
    isplitl [Hi1]; · iexact Hi1
    isplitl [Hi2]; · iexact Hi2
    isplitl [Hi3]; · iexact Hi3
    isplitl [Ht0]; · iexact Ht0
    isplitl [Ht1]; · iexact Ht1
    isplitl [Ht2]; · iexact Ht2
    isplitl [Ht3]; · iexact Ht3
    isplitl [Hb0]; · iexact Hb0
    isplitl [Hb1]; · iexact Hb1
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hl]; · iexact Hl
    isplitl [Hg]; · iexact Hg
    isplitl [HR]; · iexact HR
    iexact Ho
  iintro ⟨HSt, Hs4, Hs5, Hs6, Hs7, Hs8, Ht, Hb⟩
  unfold St
  icases HSt with ⟨-, %W', %fl', %fg', %hW', HO, -, Hl, Hg, Hs9, HR, Ho⟩
  rw [mixAt_last]
  isplitl [Ho]
  · iexact Ho
  isplitl [Ht Hl Hb Hg Hbufs]
  · isplitl [Ht]; · iexact Ht
    isplitl [Hl]; · iexists _; iexact Hl
    isplitl [Hb]; · iexact Hb
    isplitl [Hg]; · iexists _; iexact Hg
    iexact Hbufs
  isplitl [Hs4 Hs5 Hs6 Hs7 Hs8 Hs9 HR]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact HR
  iexists W'; isplitr
  · ipureintro; exact hW'
  iexact HO

end Cert.Proof.K

end
-- ==== Proof.Launch.lean ====
/-
  The launch: what the call carries to the 32 tiles and back, the program around it, and the run of the whole kernel with
  its result.
-/
module

public import proofs.«01_k».proof.Proof.Body

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held wp_hlo_within)

variable {F : FTy → Type}

local notation "𝕄" => MT nD τ sig (HIx 1) (Elt F) ℕ UU ℕ

/-! ## The tiles -/

/-- The call runs on two SparseCores. -/
theorem nCore_zero : (K (F := F)).nCore 0 = 2 := rfl
/-- On each of them it runs on sixteen tiles. -/
theorem nSub_zero : (K (F := F)).nSub 0 = 16 := rfl

/-- The grid point of SparseCore `c` and vector subcore `i`. -/
def pt (c : Fin (grid0.bound 0)) (i : Fin (grid0.bound 1)) : grid0.Coords :=
  fun | 0 => c | 1 => i | ⟨_ + 2, h⟩ => absurd h (Nat.not_lt.2 (Nat.le_add_left _ _))

/-- The grid point, at literal bounds. -/
abbrev pt' (c : Fin 2) (i : Fin 16) : grid0.Coords := pt c i

/-- The share of the inputs that tile `(c, i)` reads. -/
abbrev share (c : Fin 2) (i : Fin 16) : PosShare TreeShare := Transfers.shareTok (Transfers.shareTok fullShare 2 c) 16 i

/-- The first line of a tile. -/
theorem base_pt (c : Fin 2) (i : Fin 16) : base (pt' c i) = 4096 * i.val + 2048 * c.val := rfl

/-- The output is the tiles' elements. -/
theorem out_tiles (d : Dev nD) (f : Buf (Elt F) (oLoc d)) :
    (oLoc d ↦{fullShare} f : sProp 𝕄) = bigSep Finset.univ fun c : Fin 2 => bigSep Finset.univ fun i : Fin 16 => oLoc d ↦[tileSet (pt' c i)]{fullShare} f := by
  have hu : (Finset.univ : Finset (Fin 2 × Fin 16)).biUnion (fun p => tileSet (pt' p.1 p.2)) = Finset.univ := by
    ext y
    have hy : (y 1).val < 65536 := (y 1).isLt
    simp only [Finset.mem_biUnion, Finset.mem_univ, true_and, iff_true]
    refine ⟨(⟨(y 1).val / 2048 % 2, by omega⟩, ⟨(y 1).val / 4096, by omega⟩), ?_⟩
    rw [mem_tileSet, base_pt]
    show 4096 * ((y 1).val / 4096) + 2048 * ((y 1).val / 2048 % 2) ≤ (y 1).val ∧ (y 1).val < 4096 * ((y 1).val / 4096) + 2048 * ((y 1).val / 2048 % 2) + 2048
    omega
  have hd : ∀ p ∈ (Finset.univ : Finset (Fin 2 × Fin 16)), ∀ p' ∈ (Finset.univ : Finset (Fin 2 × Fin 16)), p ≠ p' →
      Disjoint (tileSet (pt' p.1 p.2)) (tileSet (pt' p'.1 p'.2)) := by
    intro p _ p' _ h
    rw [Finset.disjoint_left]
    intro y hy hy'
    rw [mem_tileSet, base_pt] at hy hy'
    have h1 := p.1.isLt
    have h2 := p'.1.isLt
    exact h (Prod.ext (Fin.ext (by omega)) (Fin.ext (by omega)))
  rw [← bigSep_univ_prod (fun p : Fin 2 × Fin 16 => (oLoc d ↦[tileSet (pt' p.1 p.2)]{fullShare} f : sProp 𝕄)),
    ← pointsTo_biUnion (ℓ := oLoc d) Finset.univ (fun p : Fin 2 × Fin 16 => tileSet (pt' p.1 p.2)) hd, hu]

/-- An input's full share dealt to the tiles, a part of it kept. -/
theorem dealt {ℓ : Loc nD τ sig} (f : Buf (Elt F) ℓ) :
    (ℓ ↦{fullShare} f : sProp 𝕄) ⊢ iprop((ℓ ↦{Transfers.shareDrop fullShare 2} f)
      ∗ bigSep Finset.univ fun c : Fin 2 => bigSep Finset.univ fun i : Fin 16 => ℓ ↦{share c i} f) := by
  iintro H
  ihave H := (Transfers.pointsTo_toks_split (ℓ := ℓ) (S := Finset.univ) (f := f) fullShare 2) $$ [H]
  · iexact H
  icases H with ⟨Hd, H⟩
  isplitl [Hd]; · iexact Hd
  have h : (bigSep Finset.univ fun c : Fin 2 => (ℓ ↦{Transfers.shareTok fullShare 2 c} f : sProp 𝕄))
      ⊢ bigSep Finset.univ fun c : Fin 2 => bigSep Finset.univ fun i : Fin 16 => (ℓ ↦{share c i} f : sProp 𝕄) :=
    bigSep_mono fun c _ => (Transfers.pointsTo_toks_split (Transfers.shareTok fullShare 2 c) 16).trans sep_elim_right
  iapply h $$ H

/-! ## What the call carries -/

variable (m : (ℓ : Loc nD τ sig) → Buf (Elt F) ℓ) (ρ : Dev nD → PrngReg)

/-- The table cut into lines. -/
def lines (d : Dev nD) : Buf (Elt F) (wLoc d) := shapeCast S65552x128 (m (aLoc d)) shapeCasts_S8194x1024_S65552x128

/-- What the kernel leaves in its output, cut into lines. -/
def outLines (d : Dev nD) : Buf (Elt F) (oLoc d) := final (m (iLoc d)) (lines m d)

/-- The program's result. -/
def outFull (d : Dev nD) : Buf (Elt F) (rLoc d) := shapeCast S4x8192x1024 (outLines m d) shapeCasts_S4x65536x128_S4x8192x1024

/-- What a tile is given, and what it brings back. -/
abbrev given (d : Dev nD) (c : Fin 2) (i : Fin 16) : sProp 𝕄 :=
  iprop((iLoc d ↦{share c i} m (iLoc d)) ∗ (wLoc d ↦{share c i} lines m d) ∗ oLoc d ↦[tileSet (pt' c i)]{fullShare} m (oLoc d))
/-- A tile brings back its part of the output, at its final contents. -/
abbrev brought (d : Dev nD) (c : Fin 2) (i : Fin 16) : sProp 𝕄 := oLoc d ↦[tileSet (pt' c i)]{fullShare} outLines m d

/-- Each SparseCore is given and brings back what its tiles are given and bring back. -/
def P : (K (F := F)).Pay (nD := nD) (Val := Elt F) (Name := ℕ) (U := UU) where
  st := fun q d c => match q with | 0 => bigSep Finset.univ fun i : Fin 16 => given m d (Fin.cast nCore_zero c) i
  dn := fun q d c => match q with | 0 => bigSep Finset.univ fun i : Fin 16 => brought m d (Fin.cast nCore_zero c) i
  go := fun q d c i => match q with | 0 => given m d (Fin.cast nCore_zero c) (Fin.cast nSub_zero i)
  td := fun q d c i => match q with | 0 => brought m d (Fin.cast nCore_zero c) (Fin.cast nSub_zero i)
  x := fun _ _ => iprop(emp)

/-- What the call carries can be stored in a handshake. -/
instance P_storable : (P (F := F) m).IsStorable where
  st q d c := match q with
    | 0 => (inferInstance : BI.Storable (upEmb : UEmb _ 𝕄) (bigSep Finset.univ fun i : Fin 16 => given m d (Fin.cast nCore_zero c) i))
  dn q d c := match q with
    | 0 => (inferInstance : BI.Storable (upEmb : UEmb _ 𝕄) (bigSep Finset.univ fun i : Fin 16 => brought m d (Fin.cast nCore_zero c) i))
  go q d c i := match q with
    | 0 => (inferInstance : BI.Storable (upEmb : UEmb _ 𝕄) (given m d (Fin.cast nCore_zero c) (Fin.cast nSub_zero i)))
  td q d c i := match q with
    | 0 => (inferInstance : BI.Storable (upEmb : UEmb _ 𝕄) (brought m d (Fin.cast nCore_zero c) (Fin.cast nSub_zero i)))

/-- The call's tiles are the sixteen of a SparseCore. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's SparseCores are the two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

/-! ## The obligations of the launch -/

/-- What a tile runs is the kernel's body at its grid point. -/
theorem defs₀_vector (c : Fin τ.nSC) (s : Fin τ.nSub) :
    defs₀ (F := F) (.scVector c s) 0 () = SparseCore.onTile hcore0 hsub0 (fun c s => bodyAt (pt c s)) ⟨⟩ c s := rfl

omit [FloatOps F] in
/-- A task's waits are on no handshake. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ SparseCore.Cfg.Blocks.blk q p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] cc0__sc_body final in
set_option maxRecDepth 16384 in
/-- A tile's run, from what it is given to what it brings back. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb := tile_body d (pt ⟨_, hci.1⟩ ⟨_, hci.2⟩) (share (Fin.cast nCore_zero c) (Fin.cast nSub_zero i)) (share (Fin.cast nCore_zero c) (Fin.cast nSub_zero i))
    (m (iLoc d)) (lines m d) (m (oLoc d)) hF O W hO
  have hc := hb.trans (wp_mono frame _ _ fun _ => obl_post (q := 0))
  exact hc

/-- A SparseCore's part is its tiles' parts. -/
theorem vecSplit : (K (F := F)).VecSplit' (P m) 0 := by
  intro d c
  show (bigSep Finset.univ fun i : Fin 16 => given m d (Fin.cast nCore_zero c) i) ⊢ |={Set.univ}=> iprop(
      (bigSep Finset.univ fun i : Fin ((K (F := F)).nSub 0) => given m d (Fin.cast nCore_zero c) (Fin.cast nSub_zero i))
      ∗ ((bigSep Finset.univ fun i : Fin ((K (F := F)).nSub 0) => brought m d (Fin.cast nCore_zero c) (Fin.cast nSub_zero i))
          -∗ bigSep Finset.univ fun i : Fin 16 => brought m d (Fin.cast nCore_zero c) i))
  rw [bigSep_tasks (F := F) (fun i => given m d (Fin.cast nCore_zero c) i), bigSep_tasks (F := F) (fun i => brought m d (Fin.cast nCore_zero c) i)]
  iintro H; imodintro
  isplitl [H]; · iexact H
  iintro H; iexact H

/-- The certificate's ghost state at the launch. -/
def u₀ : UU := (initOf (K (F := F)).hsCells (K (F := F)).hsToks, 1)

omit [FloatOps F] in
/-- Nothing, over any index set, is nothing. -/
theorem bigSep_none {I : Type} (s : Finset I) : (bigSep s fun _ => iprop(emp)) = (iprop(emp) : sProp 𝕄) := bigSep_emp_const s

/-- The launch's ghost state gives the handshakes their cells. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## The program around the call -/

/-- The table, the cut table, the output in lines and the result, as arrays of the device. -/
abbrev a' : DevRef τ sig := Proc.devRef .tc (main_arg1 : Ref sig .tc)
abbrev w' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two reshapes of the program. -/
abbrev opIn : HloOp τ sig (Elt F) := StableHlo.reshape main_arg1 main_v0 rfl shapeCasts_S8194x1024_S65552x128
abbrev opOut : HloOp τ sig (Elt F) := StableHlo.reshape main_v1 main_v2 rfl shapeCasts_S4x65536x128_S4x8192x1024

omit [FloatOps F] in
/-- The program's arrays. -/
theorem unscopedBufs_eq (d : Dev nD) (V : (b : Ref sig .tc) → Buf (Elt F) ((d.tc : Thread nD τ).loc b)) :
    (unscopedBufs d V : sProp 𝕄) = iprop((iLoc d ↦{fullShare} V main_arg0) ∗ (aLoc d ↦{fullShare} V main_arg1) ∗ (wLoc d ↦{fullShare} V main_v0)
      ∗ (oLoc d ↦{fullShare} V main_v1) ∗ rLoc d ↦{fullShare} V main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays as the launch finds them, and as the call leaves them. -/
def V0 (d : Dev nD) : Valuation τ sig (Elt F) := fun b => m (d, b)
/-- The arrays as the call leaves them. -/
def V1 (d : Dev nD) : Valuation τ sig (Elt F) := Function.update (V0 m d) o' (outLines m d)

omit [FloatOps F] in
/-- The arrays of the first reshape. -/
theorem held_in (d : Dev nD) (V : Valuation τ sig (Elt F)) :
    (held (T d) {a', w'} V : sProp 𝕄) = iprop((aLoc d ↦{fullShare} V a') ∗ wLoc d ↦{fullShare} V w') := by
  unfold held
  rw [SparseCore.bigSep_insert' (by decide), bigSep_singleton]

omit [FloatOps F] in
/-- The arrays of the second reshape. -/
theorem held_out (d : Dev nD) (V : Valuation τ sig (Elt F)) :
    (held (T d) {o', r'} V : sProp 𝕄) = iprop((oLoc d ↦{fullShare} V o') ∗ rLoc d ↦{fullShare} V r') := by
  unfold held
  rw [SparseCore.bigSep_insert' (by decide), bigSep_singleton]

/-- The first reshape leaves the table. -/
theorem opIn_a (d : Dev nD) : (opIn (F := F)).result (V0 m d) a' = m (aLoc d) :=
  (opIn (F := F)).result_of_not_mem (V0 m d) (b := a') (show a' ∉ ({w'} : Finset (DevRef τ sig)) by decide)
/-- The first reshape writes the table cut into lines. -/
theorem opIn_w (d : Dev nD) : (opIn (F := F)).result (V0 m d) w' = lines m d :=
  (StableHlo.reshape_result main_arg1 main_v0 rfl shapeCasts_S8194x1024_S65552x128 _ _ (V0 m d)).trans rfl
/-- The second reshape writes the result. -/
theorem opOut_r (d : Dev nD) : (opOut (F := F)).result (V1 m d) r' = outFull m d :=
  (StableHlo.reshape_result main_v1 main_v2 rfl shapeCasts_S4x65536x128_S4x8192x1024 _ _ (V1 m d)).trans (by
    show (fun i => shapeCast S4x8192x1024 (V1 m d o') shapeCasts_S4x65536x128_S4x8192x1024 i) = outFull m d
    rw [show V1 m d o' = outLines m d from Function.update_self _ _ _]
    rfl)

/-- The arrays after the first reshape. -/
theorem held_opIn (d : Dev nD) : (held (T d) {a', w'} ((opIn (F := F)).result (V0 m d)) : sProp 𝕄)
    = iprop((aLoc d ↦{fullShare} m (aLoc d)) ∗ wLoc d ↦{fullShare} lines m d) := by
  rw [held_in, opIn_a, opIn_w]
/-- The arrays after the second reshape. -/
theorem held_opOut (d : Dev nD) : (held (T d) {o', r'} ((opOut (F := F)).result (V1 m d)) : sProp 𝕄)
    = iprop((oLoc d ↦{fullShare} (opOut (F := F)).result (V1 m d) o') ∗ rLoc d ↦{fullShare} outFull m d) := by
  rw [held_out, opOut_r]

/-- What the call takes: the parts of all tiles. -/
theorem st0_eq (d : Dev nD) : (bigSep Finset.univ fun c : Fin ((K (F := F)).nCore 0) => (P m).st 0 d c)
    = bigSep Finset.univ fun c : Fin 2 => bigSep Finset.univ fun i : Fin 16 => given m d c i :=
  bigSep_cores (F := F) fun c => bigSep Finset.univ fun i : Fin 16 => given m d c i
/-- What the call brings back: the whole output. -/
theorem dn0_eq (d : Dev nD) : (bigSep Finset.univ fun c : Fin ((K (F := F)).nCore 0) => (P m).dn 0 d c) = (oLoc d ↦{fullShare} outLines m d : sProp 𝕄) :=
  (bigSep_cores (F := F) fun c => bigSep Finset.univ fun i : Fin 16 => brought m d c i).trans (out_tiles d (outLines m d)).symm

/-- The arrays dealt to the tiles. -/
theorem all_given (d : Dev nD) :
    iprop((iLoc d ↦{fullShare} m (iLoc d)) ∗ (wLoc d ↦{fullShare} lines m d) ∗ oLoc d ↦{fullShare} m (oLoc d))
      ⊢ (iprop((iLoc d ↦{Transfers.shareDrop fullShare 2} m (iLoc d))
        ∗ bigSep Finset.univ fun c : Fin ((K (F := F)).nCore 0) => (P m).st 0 d c) : sProp 𝕄) := by
  rw [st0_eq, out_tiles]
  simp only [bigSep_sep']
  iintro ⟨Hi, Hw, Ho⟩
  ihave Hi := (dealt (F := F) (ℓ := iLoc d) (m (iLoc d))) $$ Hi
  icases Hi with ⟨Hd, Hi⟩
  ihave Hw := (dealt (F := F) (ℓ := wLoc d) (lines m d)) $$ Hw
  icases Hw with ⟨-, Hw⟩
  isplitl [Hd]; · iexact Hd
  isplitl [Hi]; · iexact Hi
  isplitl [Hw]; · iexact Hw
  iexact Ho

/-- The first reshape touches the table and the cut table only. -/
theorem hIn : (opIn (F := F)).bufs ⊆ {a', w'} := show ({a', w'} : Finset (DevRef τ sig)) ⊆ {a', w'} by decide
/-- The second reshape touches the output in lines and the result only. -/
theorem hOut : (opOut (F := F)).bufs ⊆ {o', r'} := show ({o', r'} : Finset (DevRef τ sig)) ⊆ {o', r'} by decide

/-- What the program leaves the claim: the arguments at their launch contents, the result at its value. -/
abbrev FIN (d : Dev nD) : sProp 𝕄 :=
  iprop((iLoc d ↦{Transfers.shareDrop fullShare 2} m (iLoc d)) ∗ (aLoc d ↦{fullShare} m (aLoc d)) ∗ rLoc d ↦{fullShare} outFull m d)

/-- The program on a device: the table cut into lines, the call, the lines put together. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Ha, Hw, Ho, Hr⟩, Hts, -⟩, -⟩
  iapply (wp_hlo_within 𝒱 (SparseCore.T d) none Set.univ (op := opIn) (S := {a', w'}) hIn (V := V0 m d)) $$ [Hb Ha Hw]
  · isplitl [Hb]; · iexact Hb
    rw [held_in]
    isplitl [Ha]; · iexact Ha
    iexact Hw
  iintro ⟨Hb, Hh⟩
  ihave Hh := (Entails.of_eq (held_opIn (F := F) m d)) $$ Hh
  icases Hh with ⟨Ha, Hw⟩
  rw [wp_ret]; imodintro
  ihave Hall := (all_given (F := F) m d) $$ [Hi Hw Ho]
  · isplitl [Hi]; · iexact Hi
    isplitl [Hw]; · iexact Hw
    iexact Ho
  icases Hall with ⟨Hi, Hgive⟩
  iapply ((K (F := F)).wp_run (D (F := F)) 𝒱 (EH := EH) (P := P m) κ d 0) $$ [Hst Hgive Hi Ha Hb Hr Hts]
  isplitr; · iexact Hctx
  isplitl [Hst]; · iexact Hst
  isplitl [Hgive]; · iexact Hgive
  iintro ⟨Hst, Hdn⟩
  ihave Ho := (Entails.of_eq (dn0_eq m d)) $$ Hdn
  iapply (wp_hlo_within 𝒱 (SparseCore.T d) none Set.univ (op := opOut) (S := {o', r'}) hOut (V := V1 m d)) $$ [Hb Ho Hr]
  · isplitl [Hb]; · iexact Hb
    rw [held_out, show V1 m d o' = outLines m d from Function.update_self _ _ _,
      show V1 m d r' = m (rLoc d) from Function.update_of_ne (show r' ≠ o' by decide) _ _]
    isplitl [Ho]; · iexact Ho
    iexact Hr
  iintro ⟨Hb, Hh⟩
  ihave Hh := (Entails.of_eq (held_opOut (F := F) m d)) $$ Hh
  icases Hh with ⟨-, Hr⟩
  rw [wp_ret]; imodintro; imodintro
  isplitl [Hst]; · iexact Hst
  isplitr [Hb Hts]
  · isplitl [Hi]; · iexact Hi
    isplitl [Ha]; · iexact Ha
    iexact Hr
  isplitl [Hb] <;> iassumption

/-- What is read of a device's memory at the end. -/
def fq (d : Dev nD) (s' : Phys nD τ sig (Elt F)) : Prop :=
  s'.mem.mem (rLoc d) = outFull m d ∧ s'.mem.mem (iLoc d) = m (iLoc d) ∧ s'.mem.mem (aLoc d) = m (aLoc d)

set_option maxRecDepth 16384 in
/-- What the program leaves says what the memory holds. -/
theorem hfin (d : Dev nD) (s' : Phys nD τ sig (Elt F)) : iprop(FIN m d ∗ SI s') ⊢ (⌜fq m d s'⌝ : sProp 𝕄) := by
  iintro ⟨⟨Hi, Ha, Hr⟩, HSI⟩
  ihave H := (persistent_entails_right (SI_pointsTo_agree (st := s') (ℓ := iLoc d) (I := Finset.univ) (q := Transfers.shareDrop fullShare 2) (f := m (iLoc d)))) $$ [HSI Hi]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := outFull m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The run -/

/-- Every device's result is the kernel's value, its arguments are unchanged, and every semaphore reads zero again. -/
def QC : PUnit × MemSt nD τ sig (Elt F) → Prop := fun r =>
  (∀ c : Dev nD, r.2.mem (rLoc c) = outFull m c ∧ r.2.mem (iLoc c) = m (iLoc c) ∧ r.2.mem (aLoc c) = m (aLoc c)) ∧ r.2.sem = fun _ => 0

/-- Every run of the kernel terminates with the result at its value, the arguments unchanged and every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.K

end
-- ==== Proof.Result.lean ====
/-
  What the reference computes, element by element, and that the kernel's result is it: element `(b, s, c)` is the table's
  row 1 at a pad token and its row `s + 2` otherwise, column `c`.
-/
module

public import proofs.«01_k».proof.Proof.Launch
public import proofs.«01_k».proof.Proof.Gen.ReferenceIdeal.Run
public import Idealize.ShloMosaic.PureOps.Reduce

@[expose] public section

noncomputable section

namespace Cert.Proof.R

open Cert.ReferenceIdeal Cert.ReferenceIdeal.Gen

open Idealize.ShloMosaic
open Idealize.ShloMosaic.ValueIdx (ix1 ix2 ix3 eq_ix1 eq_ix2 eq_ix3)
open Cert.Proof.K (posOf posOf_lt lineOf final)

variable {F : FTy → Type}

/-! ## The reference's row numbers -/

/-- The row each position takes: the token itself at a pad (which is 1), the position plus two otherwise. -/
def rows (x : IVec S4x8192 32) : IVec S4x8192 32 :=
  select (cmpi .ne x (broadcastInDim S4x8192 ![] bcast_S_S4x8192 (constantI S_ 32 1#32)))
    (broadcastInDim S4x8192 ![0, 1] bcast_S1x8192_S4x8192_0_1 (broadcastInDim S1x8192 ![1] bcast_S8192_S1x8192_1
      (addi (broadcastInDim S8192 ![] bcast_S_S8192 (constantI S_ 32 2#32)) (iotaInDim S8192 32 0)))) x

/-- The same with a negative row counted from the table's end. -/
def wrapped (x : IVec S4x8192 32) : IVec S4x8192 32 :=
  select (cmpi .slt (rows x) (broadcastInDim S4x8192 ![] bcast_S_S4x8192 (constantI S_ 32 0#32)))
    (addi (rows x) (broadcastInDim S4x8192 ![] bcast_S_S4x8192 (constantI S_ 32 8194#32))) (rows x)

/-- The row numbers as the gather takes them. -/
def starts (x : IVec S4x8192 32) : IVec S4x8192x1 32 := broadcastInDim S4x8192x1 ![0, 1] bcast_S4x8192_S4x8192x1_0_1 (wrapped x)

/-- Which positions take a row inside the table. -/
def inside (x : IVec S4x8192 32) : IVec S4x8192x1 1 :=
  andi (cmpi .sge (starts x) (broadcastInDim S4x8192x1 ![] bcast_S_S4x8192x1 (constantI S_ 32 0#32)))
    (cmpi .sle (starts x) (broadcastInDim S4x8192x1 ![0, 1, 2] bcast_S1x1x1_S4x8192x1_0_1_2
      (broadcastInDim S1x1x1 ![2] bcast_S1_S1x1x1_2 (constantI S1 32 8193#32))))

/-- A row number in the table is its own word, and is not negative. -/
theorem row_word (p : ℕ) (hp : p < 8194) : (BitVec.ofNat 32 p).toInt = (p : ℤ) := by
  have h : (BitVec.ofNat 32 p).toNat = p := by rw [BitVec.toNat_ofNat]; exact Nat.mod_eq_of_lt (by omega)
  rw [BitVec.toInt_eq_toNat_of_lt (by rw [h]; omega), h]

/-- The row a position takes, as a word. -/
theorem rows_apply (x : IVec S4x8192 32) (y : S4x8192.Idx) : rows x y = BitVec.ofNat 32 (posOf (x y) (y 1).val) := by
  show Scalar.select (IntOp.cmpi .ne (x y) 1#32) (IntOp.addi 2#32 (BitVec.ofNat 32 (y 1).val)) (x y) = _
  unfold posOf
  by_cases h : x y = 1#32
  · rw [if_pos h, h]; rfl
  · rw [if_neg h]
    show Scalar.select (BitVec.ofBool (x y != 1#32)) _ _ = _
    rw [bne_iff_ne.mpr h]
    show 2#32 + BitVec.ofNat 32 (y 1).val = _
    rw [BitVec.add_comm, BitVec.ofNat_add]

/-- No row is negative, so none is counted from the end. -/
theorem wrapped_apply (x : IVec S4x8192 32) (y : S4x8192.Idx) : wrapped x y = BitVec.ofNat 32 (posOf (x y) (y 1).val) := by
  show Scalar.select (BitVec.ofBool ((rows x y).slt 0#32)) _ (rows x y) = _
  have h : (rows x y).slt 0#32 = false := by
    rw [rows_apply, BitVec.slt, row_word _ (posOf_lt _ _ (y 1).isLt)]
    simp
  rw [h, rows_apply]
  rfl

/-- The gather's starts are the rows. -/
theorem starts_apply (x : IVec S4x8192 32) (y : S4x8192x1.Idx) :
    starts x y = BitVec.ofNat 32 (posOf (x (ix2 (n0 := 4) (n1 := 8192) (y 0) (y 1))) (y 1).val) := by
  have h : starts x y = wrapped x (ix2 (n0 := 4) (n1 := 8192) (y 0) (y 1)) := congrArg (wrapped x) (by funext a; match a with | 0 => rfl | 1 => rfl)
  rw [h, wrapped_apply]

/-- Every row lies in the table. -/
theorem inside_apply (x : IVec S4x8192 32) (y : S4x8192x1.Idx) : inside x y = 1#1 := by
  show IntOp.andi (BitVec.ofBool ((0#32).sle (starts x y))) (BitVec.ofBool ((starts x y).sle 8193#32)) = 1#1
  have hp := posOf_lt (x (ix2 (n0 := 4) (n1 := 8192) (y 0) (y 1))) (y 1).val (y 1).isLt
  have h0 : (0#32).sle (starts x y) = true := by
    rw [starts_apply, BitVec.sle, row_word _ hp]; simp
  have h1 : (starts x y).sle 8193#32 = true := by
    rw [starts_apply, BitVec.sle, row_word _ hp]
    show decide (_ ≤ (8193 : ℤ)) = true
    rw [decide_eq_true_iff]; omega
  rw [h0, h1]; rfl

/-- A conjunction of ones is one. -/
theorem all_inside (x : IVec S4x8192 32) (y : S4x8192.Idx) :
    Host.reduce IntOp.andi (inside x) (constantI S_ 1 1#1) reducesTo_S4x8192x1_S4x8192_d2 h_S_ y = 1#1 := by
  rw [Host.reduce_eq_foldl]
  have h : ∀ l : List S4x8192x1.Idx, l.foldl (fun r i => IntOp.andi r (inside x i)) (1#1 : BitVec 1) = 1#1 := by
    intro l
    induction l with
    | nil => rfl
    | cons a l ih => rw [List.foldl_cons, inside_apply]; exact ih
  exact h _

/-- So the mask is one at every element. -/
theorem inside_everywhere (x : IVec S4x8192 32) (y : S4x8192x1024.Idx) :
    broadcastInDim S4x8192x1024 ![0, 1] bcast_S4x8192_S4x8192x1024_0_1
      (Host.reduce IntOp.andi (inside x) (constantI S_ 1 1#1) reducesTo_S4x8192x1_S4x8192_d2 h_S_) y = 1#1 := all_inside x _

/-! ## The gather -/

/-- The gather read at an element: the row its start names, clamped into the table, at the element's column. -/
theorem gather_apply {α : Type} (w : S8194x1024.Idx → α) (i : IVec S4x8192x1 32) (y : S4x8192x1024.Idx) :
    Host.gather gather_S8194x1024_S4x8192x1_S4x8192x1024_2_0_n_n_0_2_11024 w i y
      = w (ix2 (n0 := 8194) (n1 := 1024) ⟨min (i (ix3 (n0 := 4) (n1 := 8192) (n2 := 1) (y 0) (y 1) 0)).toInt.toNat 8193, by omega⟩ (y 2)) := by
  let D := gather_S8194x1024_S4x8192x1_S4x8192x1024_2_0_n_n_0_2_11024
  unfold Host.gather
  congr 1
  funext a
  refine Fin.ext ?_
  show D.start y i a + D.batchCoord y a + D.offCoord y a = _
  match a with
  | 0 =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx y ⟨List.idxOf (0 : Fin 2) D.startIndexMap, List.idxOf_lt_length_iff.2 (List.mem_singleton.mpr rfl)⟩
        = ix3 (n0 := 4) (n1 := 8192) (n2 := 1) (y 0) (y 1) 0 := by
      funext b; refine Fin.ext ?_
      match b with
      | 0 => rfl
      | 1 => rfl
      | 2 => rfl
    rw [hsi]
    rfl
  | 1 =>
    rw [GatherDims.batchCoord_eq_zero _ _ _ List.not_mem_nil]
    unfold GatherDims.start
    rw [dif_neg (show (1 : Fin 2) ∉ D.startIndexMap from fun h => absurd (List.mem_singleton.mp h) (by decide))]
    simp only [Nat.zero_add]
    rfl

/-! ## The reference's result -/

variable [FloatOps F]

/-- The reference's result on its two arguments. -/
def value (x : IVec S4x8192 32) (w : FVec F S8194x1024 .f32) : FVec F S4x8192x1024 .f32 :=
  select (broadcastInDim S4x8192x1024 ![0, 1] bcast_S4x8192_S4x8192x1024_0_1
      (Host.reduce IntOp.andi (inside x) (constantI S_ 1 1#1) reducesTo_S4x8192x1_S4x8192_d2 h_S_))
    (Host.gather gather_S8194x1024_S4x8192x1_S4x8192x1024_2_0_n_n_0_2_11024 w (starts x))
    (broadcastInDim S4x8192x1024 ![] bcast_S_S4x8192x1024 (constant S_ .f32 0x7FC00000#32))

/-- What the reference's run leaves is this value. -/
theorem res_eq (m : (ℓ : Loc nD τ sig) → Buf (Elt F) ℓ) (c : Dev nD) :
    Value.res_out0 m c = value (m ((c.tc : Thread nD τ).loc main_arg0)) (m ((c.tc : Thread nD τ).loc main_arg1)) := rfl

/-- The reference's result, element by element. -/
theorem value_apply (x : IVec S4x8192 32) (w : FVec F S8194x1024 .f32) (y : S4x8192x1024.Idx) :
    value x w y = w (ix2 (n0 := 8194) (n1 := 1024)
      ⟨posOf (x (ix2 (n0 := 4) (n1 := 8192) (y 0) (y 1))) (y 1).val, posOf_lt _ _ (y 1).isLt⟩ (y 2)) := by
  have hp := posOf_lt (x (ix2 (n0 := 4) (n1 := 8192) (y 0) (y 1))) (y 1).val (y 1).isLt
  have hst : starts x (ix3 (n0 := 4) (n1 := 8192) (n2 := 1) (y 0) (y 1) 0)
      = BitVec.ofNat 32 (posOf (x (ix2 (n0 := 4) (n1 := 8192) (y 0) (y 1))) (y 1).val) := starts_apply x _
  unfold value
  rw [ValueIdx.select_apply, inside_everywhere, gather_apply]
  refine (if_pos rfl).trans (congrArg (fun p => w (ix2 (n0 := 8194) (n1 := 1024) p (y 2))) (Fin.ext ?_))
  show min (starts x (ix3 (n0 := 4) (n1 := 8192) (n2 := 1) (y 0) (y 1) 0)).toInt.toNat 8193 = posOf (x (ix2 (n0 := 4) (n1 := 8192) (y 0) (y 1))) (y 1).val
  rw [hst, row_word _ hp]
  omega

/-! ## The kernel's result is the reference's -/

omit [FloatOps F] in
/-- The table cut into lines, element by element. -/
theorem cut_apply (w : FVec F S8194x1024 .f32) (p : Fin 8194) (k : Fin 1024) (l : Fin 65552) (j : Fin 128)
    (h : p.val * 1024 + k.val = l.val * 128 + j.val) :
    shapeCast Cert.KernelIdeal.S65552x128 w Cert.KernelIdeal.Gen.shapeCasts_S8194x1024_S65552x128 (ix2 (n0 := 65552) (n1 := 128) l j)
      = w (ix2 (n0 := 8194) (n1 := 1024) p k) :=
  shapeCast_apply w _ _ _ (by rw [Shape.rowMajor_val_two, Shape.rowMajor_val_two]; exact h)

/-- The kernel's lines put together are the reference's result. -/
theorem kernel_eq (x : IVec S4x8192 32) (w : FVec F S8194x1024 .f32) :
    shapeCast Cert.KernelIdeal.S4x8192x1024 (final x (shapeCast Cert.KernelIdeal.S65552x128 w Cert.KernelIdeal.Gen.shapeCasts_S8194x1024_S65552x128))
      Cert.KernelIdeal.Gen.shapeCasts_S4x65536x128_S4x8192x1024 = value x w := by
  funext y
  have h0 : (y 0).val < 4 := (y 0).isLt
  have h1 : (y 1).val < 8192 := (y 1).isLt
  have h2 : (y 2).val < 1024 := (y 2).isLt
  rw [value_apply, shapeCast_apply _ _ y (ix3 (n0 := 4) (n1 := 65536) (n2 := 128) (y 0) ⟨8 * (y 1).val + (y 2).val / 128, by omega⟩ ⟨(y 2).val % 128, by omega⟩)
    (by
      rw [Shape.rowMajor_val_three, Shape.rowMajor_val_three]
      show ((y 0).val * 65536 + (8 * (y 1).val + (y 2).val / 128)) * 128 + (y 2).val % 128 = ((y 0).val * 8192 + (y 1).val) * 1024 + (y 2).val
      omega)]
  have hs : (8 * (y 1).val + (y 2).val / 128) / 8 = (y 1).val := by omega
  have hx : (ix2 (n0 := 4) (n1 := 8192) (y 0) ⟨(8 * (y 1).val + (y 2).val / 128) / 8, by omega⟩) = ix2 (n0 := 4) (n1 := 8192) (y 0) (y 1) :=
    congrArg (ix2 (n0 := 4) (n1 := 8192) (y 0)) (Fin.ext hs)
  refine cut_apply w _ _ _ _ ?_
  show posOf (x (ix2 (n0 := 4) (n1 := 8192) (y 0) (y 1))) (y 1).val * 1024 + (y 2).val
    = (8 * posOf (x (ix2 (n0 := 4) (n1 := 8192) (y 0) ⟨(8 * (y 1).val + (y 2).val / 128) / 8, _⟩)) ((8 * (y 1).val + (y 2).val / 128) / 8)
      + (8 * (y 1).val + (y 2).val / 128) % 8) * 128 + (y 2).val % 128
  rw [hx, hs]
  omega

end Cert.Proof.R

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Result
public import Idealize.ShloMosaic.Adequacy
public import Idealize.ShloMosaic.Init

@[expose] public section

noncomputable section

namespace Cert.Proof

open Idealize.ShloMosaic Idealize.SL.Sem

/-- The idealized kernel runs and ends quiescent with its arguments unchanged: the kernel's run at the ideal instance. -/
theorem frame_kernelIdeal : Cert.quiescent_KernelIdeal := fun m ρ _ =>
  (θ_run Cert.KernelIdeal.defs _ _).mono (fun _ h => ⟨fun c => (h.1 c).2, h.2⟩) (K.run_main (F := Ideal) m ρ)

/-- The kernel's program and its idealized print are the same text, so the kernel's run is the same run over machine words. -/
theorem run_kernel (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (K.QC (F := Bits) m) :=
  K.run_main (F := Bits) m ρ

/-- The kernel runs and ends quiescent with its arguments unchanged. -/
theorem frame_kernel : Cert.quiescent_Kernel := fun m ρ _ =>
  (θ_run Cert.Kernel.defs _ _).mono (fun _ h => ⟨fun c => (h.1 c).2, h.2⟩) (run_kernel m ρ)

/-- The reference runs and ends with its arguments unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference over machine words. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The reference's two prints compute the same term. -/
theorem res_reference (m : (ℓ : Loc Cert.Reference.nD Cert.Reference.τ Cert.Reference.sig) → Buf (Elt Bits) ℓ) (c : Dev Cert.Reference.nD) :
    Cert.Reference.Value.res_out0 (F := Bits) m c
      = R.value (F := Bits) (m ((c.tc : Thread Cert.Reference.nD Cert.Reference.τ).loc Cert.Reference.main_arg0))
          (m ((c.tc : Thread Cert.Reference.nD Cert.Reference.τ).loc Cert.Reference.main_arg1)) := rfl

/-- The kernel's result is the reference's, over the extended reals. -/
theorem algebraic : Cert.algebraic_KernelIdeal_ReferenceIdeal := by
  intro m ρ m' ρ' _ hagree
  refine ⟨fun c => K.outFull (F := Ideal) m c, (θ_run Cert.KernelIdeal.defs _ _).mono (fun _ h c => h.1 c) (K.run_main (F := Ideal) m ρ),
    (θ_run Cert.ReferenceIdeal.defs _ _).mono (fun _ h c => ⟨(h c).1.trans ?_, (h c).2⟩) (Cert.ReferenceIdeal.Value.run (F := Ideal) m' ρ')⟩
  refine (R.res_eq (F := Ideal) m' c).trans ?_
  rw [(hagree c).1, (hagree c).2]
  exact (R.kernel_eq (F := Ideal) _ _).symm

/-- The kernel's result is the reference's, bit for bit. -/
theorem bitexact : Cert.bitexact_Kernel_Reference := by
  intro m ρ m' ρ' _ hagree
  refine ⟨fun c => K.outFull (F := Bits) m c, (θ_run Cert.Kernel.defs _ _).mono (fun _ h c => h.1 c) (run_kernel m ρ),
    (θ_run Cert.Reference.defs _ _).mono (fun _ h c => ⟨(h c).1.trans ?_, (h c).2⟩) (Cert.Reference.Value.run (F := Bits) m' ρ')⟩
  refine (res_reference m' c).trans ?_
  rw [(hagree c).1, (hagree c).2]
  exact (R.kernel_eq (F := Bits) _ _).symm

theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
